-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨4, ![2, 128, 128, 64]⟩ ⟨4, ![2, 2048, 128, 64]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨4, ![2, 128, 128, 128]⟩ ⟨4, ![2, 2048, 128, 128]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x128x64 : Shape := ⟨4, ![2, 128, 128, 64]⟩
abbrev S64x128 : Shape := ⟨2, ![64, 128]⟩
abbrev S_ : Shape := ⟨0, ![]⟩

class Facts : Prop where
  bcast_S_S2x128x128x64 : S_.BroadcastsInDim S2x128x128x64 (![] : Fin 0 → Fin S2x128x128x64.rank)

variable [Facts]

def fn {F : FTy → Type} [FloatOps F] (main_arg0 : FVec F S2x128x128x64 .f32) (main_arg1 : FVec F S64x128 .f32) : IVec S2x128x128x64 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  main_v2
-- ==== Pre_finite_ReferenceIdeal.lean ====
abbrev S2x2048x128x64 : Shape := ⟨4, ![2, 2048, 128, 64]⟩
abbrev S64x128 : Shape := ⟨2, ![64, 128]⟩
abbrev S_ : Shape := ⟨0, ![]⟩

class Facts : Prop where
  bcast_S_S2x2048x128x64 : S_.BroadcastsInDim S2x2048x128x64 (![] : Fin 0 → Fin S2x2048x128x64.rank)

variable [Facts]

def fn {F : FTy → Type} [FloatOps F] (main_arg0 : FVec F S2x2048x128x64 .f32) (main_arg1 : FVec F S64x128 .f32) : IVec S2x2048x128x64 1 :=
  let main_v0 : FVec F S2x2048x128x64 .f32 := Host.absf main_arg0
  let main_cst : FVec F S_ .f32 := constant S_ .f32 0x7F800000#32
  let main_v1 : FVec F S2x2048x128x64 .f32 := broadcastInDim S2x2048x128x64 ![] bcast_S_S2x2048x128x64 main_cst
  let main_v2 : IVec S2x2048x128x64 1 := cmpf .olt main_v0 main_v1
  main_v2
-- ==== Kernel.lean ====
abbrev S2x128x128x64 : Shape := ⟨4, ![2, 128, 128, 64]⟩
abbrev S64x128 : Shape := ⟨2, ![64, 128]⟩
abbrev S2x16384x64 : Shape := ⟨3, ![2, 16384, 64]⟩
abbrev S2x16384x128 : Shape := ⟨3, ![2, 16384, 128]⟩
abbrev S2x4096x128 : Shape := ⟨3, ![2, 4096, 128]⟩
abbrev S2x2x64 : Shape := ⟨3, ![2, 2, 64]⟩
abbrev S2x16x2x64 : Shape := ⟨4, ![2, 16, 2, 64]⟩
abbrev S8 : Shape := ⟨1, ![8]⟩
abbrev S32 : Shape := ⟨1, ![32]⟩
abbrev S2 : Shape := ⟨1, ![2]⟩
abbrev S_ : Shape := ⟨0, ![]⟩
abbrev S1 : Shape := ⟨1, ![1]⟩
abbrev S1x4096x64 : Shape := ⟨3, ![1, 4096, 64]⟩
abbrev S4096x64 : Shape := ⟨2, ![4096, 64]⟩
abbrev S8x4096 : Shape := ⟨2, ![8, 4096]⟩
abbrev S8x64 : Shape := ⟨2, ![8, 64]⟩
abbrev S1x64 : Shape := ⟨2, ![1, 64]⟩
abbrev S2x64 : Shape := ⟨2, ![2, 64]⟩
abbrev S1x2x64 : Shape := ⟨3, ![1, 2, 64]⟩
abbrev S1x1x2x64 : Shape := ⟨4, ![1, 1, 2, 64]⟩
abbrev S1x16x2x64 : Shape := ⟨4, ![1, 16, 2, 64]⟩
abbrev S16x2x64 : Shape := ⟨3, ![16, 2, 64]⟩
abbrev S4096x128 : Shape := ⟨2, ![4096, 128]⟩
abbrev S1x4096x128 : Shape := ⟨3, ![1, 4096, 128]⟩
abbrev S2x128x128x128 : Shape := ⟨4, ![2, 128, 128, 128]⟩

abbrev nBuf : Space → Nat
  | .hbm => 5
  | .vmem => 5
  | .smem => 0
  | _ => 0

abbrev bufTy : (tb : Table) → Fin (tcTables nBuf tb) → BufTy
  | .hbm, ⟨0, _⟩ => ⟨S2x128x128x64, .f32⟩
  | .hbm, ⟨1, _⟩ => ⟨S64x128, .f32⟩
  | .hbm, ⟨2, _⟩ => ⟨S2x16384x64, .f32⟩
  | .hbm, ⟨3, _⟩ => ⟨S2x16384x128, .f32⟩
  | .hbm, ⟨4, _⟩ => ⟨S2x128x128x128, .f32⟩
  | .local _ .vmem, ⟨0, _⟩ => ⟨S64x128, .f32⟩
  | .local _ .vmem, ⟨1, _⟩ => ⟨S2x16384x64, .f32⟩
  | .local _ .vmem, ⟨2, _⟩ => ⟨S2x4096x128, .f32⟩
  | .local _ .vmem, ⟨3, _⟩ => ⟨S2x2x64, .f32⟩
  | .local _ .vmem, ⟨4, _⟩ => ⟨S2x16x2x64, .f32⟩
  | _, _ => ⟨S2x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_167 : BitVec 32 := 1#32
  let v176 : BitVec 32 := Scalar.addi v2 c1_i32_167
  let c16_i32_168 : BitVec 32 := 16#32
  let v177 : BitVec 32 := Scalar.remsi v176 c16_i32_168
  let c1_i32_174 : BitVec 32 := 1#32
  let v178 : BitVec 32 := Scalar.muli v177 c1_i32_174
  let v179 : BitVec 32 := Scalar.addi c0_i32_175 v178
  v179.toNat
def k0_dev17 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_180 : BitVec 32 := 2#32
  let v188 : BitVec 32 := Scalar.addi v2 c2_i32_180
  let c16_i32_181 : BitVec 32 := 16#32
  let v189 : BitVec 32 := Scalar.remsi v188 c16_i32_181
  let c1_i32_187 : BitVec 32 := 1#32
  let v190 : BitVec 32 := Scalar.muli v189 c1_i32_187
  let v191 : BitVec 32 := Scalar.addi c0_i32_188 v190
  v191.toNat
def k0_dev18 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_193 : BitVec 32 := 3#32
  let v200 : BitVec 32 := Scalar.addi v2 c3_i32_193
  let c16_i32_194 : BitVec 32 := 16#32
  let v201 : BitVec 32 := Scalar.remsi v200 c16_i32_194
  let c1_i32_200 : BitVec 32 := 1#32
  let v202 : BitVec 32 := Scalar.muli v201 c1_i32_200
  let v203 : BitVec 32 := Scalar.addi c0_i32_201 v202
  v203.toNat
def k0_dev19 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_206 : BitVec 32 := 4#32
  let v212 : BitVec 32 := Scalar.addi v2 c4_i32_206
  let c16_i32_207 : BitVec 32 := 16#32
  let v213 : BitVec 32 := Scalar.remsi v212 c16_i32_207
  let c1_i32_213 : BitVec 32 := 1#32
  let v214 : BitVec 32 := Scalar.muli v213 c1_i32_213
  let v215 : BitVec 32 := Scalar.addi c0_i32_214 v214
  v215.toNat
def k0_dev20 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_219 : BitVec 32 := 5#32
  let v224 : BitVec 32 := Scalar.addi v2 c5_i32_219
  let c16_i32_220 : BitVec 32 := 16#32
  let v225 : BitVec 32 := Scalar.remsi v224 c16_i32_220
  let c1_i32_226 : BitVec 32 := 1#32
  let v226 : BitVec 32 := Scalar.muli v225 c1_i32_226
  let v227 : BitVec 32 := Scalar.addi c0_i32_227 v226
  v227.toNat
def k0_dev21 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_232 : BitVec 32 := 6#32
  let v236 : BitVec 32 := Scalar.addi v2 c6_i32_232
  let c16_i32_233 : BitVec 32 := 16#32
  let v237 : BitVec 32 := Scalar.remsi v236 c16_i32_233
  let c1_i32_239 : BitVec 32 := 1#32
  let v238 : BitVec 32 := Scalar.muli v237 c1_i32_239
  let v239 : BitVec 32 := Scalar.addi c0_i32_240 v238
  v239.toNat
def k0_dev22 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_245 : BitVec 32 := 7#32
  let v248 : BitVec 32 := Scalar.addi v2 c7_i32_245
  let c16_i32_246 : BitVec 32 := 16#32
  let v249 : BitVec 32 := Scalar.remsi v248 c16_i32_246
  let c1_i32_252 : BitVec 32 := 1#32
  let v250 : BitVec 32 := Scalar.muli v249 c1_i32_252
  let v251 : BitVec 32 := Scalar.addi c0_i32_253 v250
  v251.toNat
def k0_dev23 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_258 : BitVec 32 := 8#32
  let v260 : BitVec 32 := Scalar.addi v2 c8_i32_258
  let c16_i32_259 : BitVec 32 := 16#32
  let v261 : BitVec 32 := Scalar.remsi v260 c16_i32_259
  let c1_i32_265 : BitVec 32 := 1#32
  let v262 : BitVec 32 := Scalar.muli v261 c1_i32_265
  let v263 : BitVec 32 := Scalar.addi c0_i32_266 v262
  v263.toNat
def k0_dev24 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_271 : BitVec 32 := 9#32
  let v272 : BitVec 32 := Scalar.addi v2 c9_i32_271
  let c16_i32_272 : BitVec 32 := 16#32
  let v273 : BitVec 32 := Scalar.remsi v272 c16_i32_272
  let c1_i32_278 : BitVec 32 := 1#32
  let v274 : BitVec 32 := Scalar.muli v273 c1_i32_278
  let v275 : BitVec 32 := Scalar.addi c0_i32_279 v274
  v275.toNat
def k0_dev25 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_284 : BitVec 32 := 10#32
  let v284 : BitVec 32 := Scalar.addi v2 c10_i32_284
  let c16_i32_285 : BitVec 32 := 16#32
  let v285 : BitVec 32 := Scalar.remsi v284 c16_i32_285
  let c1_i32_291 : BitVec 32 := 1#32
  let v286 : BitVec 32 := Scalar.muli v285 c1_i32_291
  let v287 : BitVec 32 := Scalar.addi c0_i32_292 v286
  v287.toNat
def k0_dev26 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_297 : BitVec 32 := 11#32
  let v296 : BitVec 32 := Scalar.addi v2 c11_i32_297
  let c16_i32_298 : BitVec 32 := 16#32
  let v297 : BitVec 32 := Scalar.remsi v296 c16_i32_298
  let c1_i32_304 : BitVec 32 := 1#32
  let v298 : BitVec 32 := Scalar.muli v297 c1_i32_304
  let v299 : BitVec 32 := Scalar.addi c0_i32_305 v298
  v299.toNat
def k0_dev27 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_310 : BitVec 32 := 12#32
  let v308 : BitVec 32 := Scalar.addi v2 c12_i32_310
  let c16_i32_311 : BitVec 32 := 16#32
  let v309 : BitVec 32 := Scalar.remsi v308 c16_i32_311
  let c1_i32_317 : BitVec 32 := 1#32
  let v310 : BitVec 32 := Scalar.muli v309 c1_i32_317
  let v311 : BitVec 32 := Scalar.addi c0_i32_318 v310
  v311.toNat
def k0_dev28 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_323 : BitVec 32 := 13#32
  let v320 : BitVec 32 := Scalar.addi v2 c13_i32_323
  let c16_i32_324 : BitVec 32 := 16#32
  let v321 : BitVec 32 := Scalar.remsi v320 c16_i32_324
  let c1_i32_330 : BitVec 32 := 1#32
  let v322 : BitVec 32 := Scalar.muli v321 c1_i32_330
  let v323 : BitVec 32 := Scalar.addi c0_i32_331 v322
  v323.toNat
def k0_dev29 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_336 : BitVec 32 := 14#32
  let v332 : BitVec 32 := Scalar.addi v2 c14_i32_336
  let c16_i32_337 : BitVec 32 := 16#32
  let v333 : BitVec 32 := Scalar.remsi v332 c16_i32_337
  let c1_i32_343 : BitVec 32 := 1#32
  let v334 : BitVec 32 := Scalar.muli v333 c1_i32_343
  let v335 : BitVec 32 := Scalar.addi c0_i32_344 v334
  v335.toNat
def k0_dev30 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_349 : BitVec 32 := 15#32
  let v344 : BitVec 32 := Scalar.addi v2 c15_i32_349
  let c16_i32_350 : BitVec 32 := 16#32
  let v345 : BitVec 32 := Scalar.remsi v344 c16_i32_350
  let c1_i32_356 : BitVec 32 := 1#32
  let v346 : BitVec 32 := Scalar.muli v345 c1_i32_356
  let v347 : BitVec 32 := Scalar.addi c0_i32_357 v346
  v347.toNat
def k0_dev31 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_418 : BitVec 32 := 1#32
  let v419 : BitVec 32 := Scalar.addi v2 c1_i32_418
  let c16_i32_419 : BitVec 32 := 16#32
  let v420 : BitVec 32 := Scalar.remsi v419 c16_i32_419
  let c1_i32_424 : BitVec 32 := 1#32
  let v421 : BitVec 32 := Scalar.muli v420 c1_i32_424
  let v422 : BitVec 32 := Scalar.addi c0_i32_425 v421
  v422.toNat
def k0_dev32 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_430 : BitVec 32 := 2#32
  let v431 : BitVec 32 := Scalar.addi v2 c2_i32_430
  let c16_i32_431 : BitVec 32 := 16#32
  let v432 : BitVec 32 := Scalar.remsi v431 c16_i32_431
  let c1_i32_436 : BitVec 32 := 1#32
  let v433 : BitVec 32 := Scalar.muli v432 c1_i32_436
  let v434 : BitVec 32 := Scalar.addi c0_i32_437 v433
  v434.toNat
def k0_dev33 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_442 : BitVec 32 := 3#32
  let v443 : BitVec 32 := Scalar.addi v2 c3_i32_442
  let c16_i32_443 : BitVec 32 := 16#32
  let v444 : BitVec 32 := Scalar.remsi v443 c16_i32_443
  let c1_i32_448 : BitVec 32 := 1#32
  let v445 : BitVec 32 := Scalar.muli v444 c1_i32_448
  let v446 : BitVec 32 := Scalar.addi c0_i32_449 v445
  v446.toNat
def k0_dev34 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_454 : BitVec 32 := 4#32
  let v455 : BitVec 32 := Scalar.addi v2 c4_i32_454
  let c16_i32_455 : BitVec 32 := 16#32
  let v456 : BitVec 32 := Scalar.remsi v455 c16_i32_455
  let c1_i32_460 : BitVec 32 := 1#32
  let v457 : BitVec 32 := Scalar.muli v456 c1_i32_460
  let v458 : BitVec 32 := Scalar.addi c0_i32_461 v457
  v458.toNat
def k0_dev35 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_466 : BitVec 32 := 5#32
  let v467 : BitVec 32 := Scalar.addi v2 c5_i32_466
  let c16_i32_467 : BitVec 32 := 16#32
  let v468 : BitVec 32 := Scalar.remsi v467 c16_i32_467
  let c1_i32_472 : BitVec 32 := 1#32
  let v469 : BitVec 32 := Scalar.muli v468 c1_i32_472
  let v470 : BitVec 32 := Scalar.addi c0_i32_473 v469
  v470.toNat
def k0_dev36 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_478 : BitVec 32 := 6#32
  let v479 : BitVec 32 := Scalar.addi v2 c6_i32_478
  let c16_i32_479 : BitVec 32 := 16#32
  let v480 : BitVec 32 := Scalar.remsi v479 c16_i32_479
  let c1_i32_484 : BitVec 32 := 1#32
  let v481 : BitVec 32 := Scalar.muli v480 c1_i32_484
  let v482 : BitVec 32 := Scalar.addi c0_i32_485 v481
  v482.toNat
def k0_dev37 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_490 : BitVec 32 := 7#32
  let v491 : BitVec 32 := Scalar.addi v2 c7_i32_490
  let c16_i32_491 : BitVec 32 := 16#32
  let v492 : BitVec 32 := Scalar.remsi v491 c16_i32_491
  let c1_i32_496 : BitVec 32 := 1#32
  let v493 : BitVec 32 := Scalar.muli v492 c1_i32_496
  let v494 : BitVec 32 := Scalar.addi c0_i32_497 v493
  v494.toNat
def k0_dev38 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_502 : BitVec 32 := 8#32
  let v503 : BitVec 32 := Scalar.addi v2 c8_i32_502
  let c16_i32_503 : BitVec 32 := 16#32
  let v504 : BitVec 32 := Scalar.remsi v503 c16_i32_503
  let c1_i32_508 : BitVec 32 := 1#32
  let v505 : BitVec 32 := Scalar.muli v504 c1_i32_508
  let v506 : BitVec 32 := Scalar.addi c0_i32_509 v505
  v506.toNat
def k0_dev39 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_514 : BitVec 32 := 9#32
  let v515 : BitVec 32 := Scalar.addi v2 c9_i32_514
  let c16_i32_515 : BitVec 32 := 16#32
  let v516 : BitVec 32 := Scalar.remsi v515 c16_i32_515
  let c1_i32_520 : BitVec 32 := 1#32
  let v517 : BitVec 32 := Scalar.muli v516 c1_i32_520
  let v518 : BitVec 32 := Scalar.addi c0_i32_521 v517
  v518.toNat
def k0_dev40 (d0 : Dev nD) : Nat :=
  let c0_i32_533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_526 : BitVec 32 := 10#32
  let v527 : BitVec 32 := Scalar.addi v2 c10_i32_526
  let c16_i32_527 : BitVec 32 := 16#32
  let v528 : BitVec 32 := Scalar.remsi v527 c16_i32_527
  let c1_i32_532 : BitVec 32 := 1#32
  let v529 : BitVec 32 := Scalar.muli v528 c1_i32_532
  let v530 : BitVec 32 := Scalar.addi c0_i32_533 v529
  v530.toNat
def k0_dev41 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_538 : BitVec 32 := 11#32
  let v539 : BitVec 32 := Scalar.addi v2 c11_i32_538
  let c16_i32_539 : BitVec 32 := 16#32
  let v540 : BitVec 32 := Scalar.remsi v539 c16_i32_539
  let c1_i32_544 : BitVec 32 := 1#32
  let v541 : BitVec 32 := Scalar.muli v540 c1_i32_544
  let v542 : BitVec 32 := Scalar.addi c0_i32_545 v541
  v542.toNat
def k0_dev42 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_550 : BitVec 32 := 12#32
  let v551 : BitVec 32 := Scalar.addi v2 c12_i32_550
  let c16_i32_551 : BitVec 32 := 16#32
  let v552 : BitVec 32 := Scalar.remsi v551 c16_i32_551
  let c1_i32_556 : BitVec 32 := 1#32
  let v553 : BitVec 32 := Scalar.muli v552 c1_i32_556
  let v554 : BitVec 32 := Scalar.addi c0_i32_557 v553
  v554.toNat
def k0_dev43 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_562 : BitVec 32 := 13#32
  let v563 : BitVec 32 := Scalar.addi v2 c13_i32_562
  let c16_i32_563 : BitVec 32 := 16#32
  let v564 : BitVec 32 := Scalar.remsi v563 c16_i32_563
  let c1_i32_568 : BitVec 32 := 1#32
  let v565 : BitVec 32 := Scalar.muli v564 c1_i32_568
  let v566 : BitVec 32 := Scalar.addi c0_i32_569 v565
  v566.toNat
def k0_dev44 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_574 : BitVec 32 := 14#32
  let v575 : BitVec 32 := Scalar.addi v2 c14_i32_574
  let c16_i32_575 : BitVec 32 := 16#32
  let v576 : BitVec 32 := Scalar.remsi v575 c16_i32_575
  let c1_i32_580 : BitVec 32 := 1#32
  let v577 : BitVec 32 := Scalar.muli v576 c1_i32_580
  let v578 : BitVec 32 := Scalar.addi c0_i32_581 v577
  v578.toNat
def k0_dev45 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_586 : BitVec 32 := 15#32
  let v587 : BitVec 32 := Scalar.addi v2 c15_i32_586
  let c16_i32_587 : BitVec 32 := 16#32
  let v588 : BitVec 32 := Scalar.remsi v587 c16_i32_587
  let c1_i32_592 : BitVec 32 := 1#32
  let v589 : BitVec 32 := Scalar.muli v588 c1_i32_592
  let v590 : BitVec 32 := Scalar.addi c0_i32_593 v589
  v590.toNat
abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x128x64 : Shape := ⟨4, ![2, 2048, 128, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S524288x64 : Shape := ⟨2, ![524288, 64]⟩
abbrev S524288x128 : Shape := ⟨2, ![524288, 128]⟩
abbrev S2x2048x128x128 : Shape := ⟨4, ![2, 2048, 128, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x128x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x2048x128x64, .f32⟩
  | .hbm, ⟨16, _⟩ => ⟨S2x2048x128x64, .f32⟩
  | .hbm, ⟨17, _⟩ => ⟨S2x2048x128x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x2048x128x64, .f32⟩
  | .hbm, ⟨33, _⟩ => ⟨S2x2048x128x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x2048x128x64, .f32⟩
  | .hbm, ⟨39, _⟩ => ⟨S2x2048x128x64, .f32⟩
  | .hbm, ⟨40, _⟩ => ⟨S2x2048x128x64, .f32⟩
  | .hbm, ⟨41, _⟩ => ⟨S2x2048x128x64, .f32⟩
  | .hbm, ⟨42, _⟩ => ⟨S_, .f32⟩
  | .hbm, ⟨43, _⟩ => ⟨S2x2048x128x64, .f32⟩
  | .hbm, ⟨44, _⟩ => ⟨S2x2048x128x64, .f32⟩
  | .hbm, ⟨45, _⟩ => ⟨S2x2048x128x64, .f32⟩
  | .hbm, ⟨46, _⟩ => ⟨S524288x64, .f32⟩
  | .hbm, ⟨47, _⟩ => ⟨S524288x128, .f32⟩
  | .hbm, ⟨48, _⟩ => ⟨S2x2048x128x128, .f32⟩
  | _, _ => ⟨S2x2048x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Proof.Body.lean ====
/- The kernel body as a few repeated steps: the ready signals, the copies in, the sums of a batch, the
   sends, the waits and the output chunks, each written once over its index, and the equation that the
   printed body is the sequence of them. -/
module

public import proofs.«01_k».proof.Proof.Gen.KernelIdeal.Frame
public import proofs.«01_k».proof.Proof.Gen.KernelIdeal.Skeleton

@[expose] public section

set_option maxRecDepth 65536
set_option synthInstance.maxSize 4096

noncomputable section

namespace Cert.KernelIdeal.Body

open Idealize.ShloMosaic Idealize.ShloMosaic.TcCoe Idealize.SL Idealize.SL.Sem
open Cert.KernelIdeal.Gen

variable {F : FTy → Type} [FloatOps F]

/-- Programs of one TensorCore of the kernel's mesh, with no result. -/
abbrev PR (F : FTy → Type) [FloatOps F] := Prog (TpuEff nD τ sig (Elt F) Λ₀ .tc) PUnit

/-! ## Buffers, chunks and semaphores -/

abbrev xH : Memref sig .tc .hbm S2x16384x64 .f32 := Memref.whole main_v1
abbrev wV : Memref sig .tc .vmem S64x128 .f32 := Memref.whole cc0_stg0_0
abbrev oH : Memref sig .tc .hbm S2x16384x128 .f32 := Memref.whole main_v2
abbrev xV : Memref sig .tc .vmem S2x16384x64 .f32 := Memref.whole cc0_scratch0
abbrev oV : Memref sig .tc .vmem S2x4096x128 .f32 := Memref.whole cc0_scratch1
abbrev sB : Memref sig .tc .vmem S2x2x64 .f32 := Memref.whole cc0_scratch2
abbrev aR : Memref sig .tc .vmem S2x16x2x64 .f32 := Memref.whole cc0_scratch3

/-- Chunk `q` of the eight chunks of the input: batch `q / 4`, rows `4096 (q % 4)` on. -/
theorem inbX (q : Fin 8) : ∀ a, (![q.val / 4, 4096 * (q.val % 4), 0] : Fin 3 → Nat) a + S1x4096x64.size a ≤ S2x16384x64.size a := by
  revert q; decide

theorem inbO (q : Fin 8) : ∀ a, (![q.val / 4, 4096 * (q.val % 4), 0] : Fin 3 → Nat) a + S1x4096x128.size a ≤ S2x16384x128.size a := by
  revert q; decide

theorem inbS (s : Fin 2) : ∀ a, (![s.val, 0, 0] : Fin 3 → Nat) a + S1x4096x128.size a ≤ S2x4096x128.size a := by
  revert s; decide

theorem inbB (b : Fin 2) : ∀ a, (![b.val, 0, 0] : Fin 3 → Nat) a + S1x2x64.size a ≤ S2x2x64.size a := by
  revert b; decide

theorem inbR (b : Fin 2) (d : Fin 16) : ∀ a, (![b.val, d.val, 0, 0] : Fin 4 → Nat) a + S1x1x2x64.size a ≤ S2x16x2x64.size a := by
  revert b d; decide

theorem inbA (b : Fin 2) : ∀ a, (![b.val, 0, 0, 0] : Fin 4 → Nat) a + S1x16x2x64.size a ≤ S2x16x2x64.size a := by
  revert b; decide

theorem inb8 (q : Fin 8) : ∀ a, (![q.val] : Fin 1 → Nat) a + S1.size a ≤ S8.size a := by revert q; decide
theorem inb32 (q : Fin 32) : ∀ a, (![q.val] : Fin 1 → Nat) a + S1.size a ≤ S32.size a := by revert q; decide
theorem inb2 (q : Fin 2) : ∀ a, (![q.val] : Fin 1 → Nat) a + S1.size a ≤ S2.size a := by revert q; decide

abbrev rX (q : Fin 8) : Rect S2x16384x64 := Rect.unit (s := S2x16384x64) ![q.val / 4, 4096 * (q.val % 4), 0] S1x4096x64.size (inbX q)
abbrev rO (q : Fin 8) : Rect S2x16384x128 := Rect.unit (s := S2x16384x128) ![q.val / 4, 4096 * (q.val % 4), 0] S1x4096x128.size (inbO q)
abbrev rS (s : Fin 2) : Rect S2x4096x128 := Rect.unit (s := S2x4096x128) ![s.val, 0, 0] S1x4096x128.size (inbS s)
abbrev rB (b : Fin 2) : Rect S2x2x64 := Rect.unit (s := S2x2x64) ![b.val, 0, 0] S1x2x64.size (inbB b)
abbrev rR (b : Fin 2) (d : Fin 16) : Rect S2x16x2x64 := Rect.unit (s := S2x16x2x64) ![b.val, d.val, 0, 0] S1x1x2x64.size (inbR b d)
abbrev rA (b : Fin 2) : Rect S2x16x2x64 := Rect.unit (s := S2x16x2x64) ![b.val, 0, 0, 0] S1x16x2x64.size (inbA b)
abbrev rW : Rect S64x128 := Rect.unit (s := S64x128) ![0, 0] S64x128.size inb_S64x128_S64x128_0_0

abbrev xHm (q : Fin 8) : Memref sig .tc .hbm S4096x64 .f32 := (xH.slice (rX q) (fun _ => rfl)).squeeze S4096x64 squeezes_S1x4096x64_S4096x64
abbrev xVm (q : Fin 8) : Memref sig .tc .vmem S4096x64 .f32 := (xV.slice (rX q) (fun _ => rfl)).squeeze S4096x64 squeezes_S1x4096x64_S4096x64
abbrev oHm (q : Fin 8) : Memref sig .tc .hbm S4096x128 .f32 := (oH.slice (rO q) (fun _ => rfl)).squeeze S4096x128 squeezes_S1x4096x128_S4096x128
abbrev oVm (s : Fin 2) : Memref sig .tc .vmem S4096x128 .f32 := (oV.slice (rS s) (fun _ => rfl)).squeeze S4096x128 squeezes_S1x4096x128_S4096x128
abbrev sBm (b : Fin 2) : Memref sig .tc .vmem S2x64 .f32 := (sB.slice (rB b) (fun _ => rfl)).squeeze S2x64 squeezes_S1x2x64_S2x64
abbrev aRm (b : Fin 2) (d : Fin 16) : Memref sig .tc .vmem S2x64 .f32 := (aR.slice (rR b d) (fun _ => rfl)).squeeze S2x64 squeezes_S1x1x2x64_S2x64

/-- The number of the slot of batch `b` and distance `d`. -/
abbrev slot (b : Fin 2) (d : Fin 16) : Fin 32 := ⟨16 * b.val + d.val, by have := b.isLt; have := d.isLt; omega⟩

abbrev inSem (q : Fin 8) : DmaSem sig := ⟨1 + q.val, by show _ < 75; have := q.isLt; omega⟩
abbrev sndSem (b : Fin 2) (d : Fin 16) : DmaSem sig := ⟨9 + (slot b d).val, by show _ < 75; have := (slot b d).isLt; omega⟩
abbrev rcvSem (b : Fin 2) (d : Fin 16) : DmaSem sig := ⟨41 + (slot b d).val, by show _ < 75; have := (slot b d).isLt; omega⟩
abbrev outSem (s : Fin 2) : DmaSem sig := ⟨73 + s.val, by show _ < 75; have := s.isLt; omega⟩

/-- Chunk `k` of batch `b`. -/
abbrev ch (b : Fin 2) (k : Fin 4) : Fin 8 := ⟨4 * b.val + k.val, by have := b.isLt; have := k.isLt; omega⟩

/-- The output slot chunk `q` goes through. -/
abbrev par (q : Fin 8) : Fin 2 := ⟨q.val % 2, Nat.mod_lt _ (by decide)⟩

/-- The distances at which a core sends: `1` to `15`. -/
abbrev far (j : Fin 15) : Fin 16 := j.succ

/-- The fifteen distances in the order of the program. -/
abbrev js : List (Fin 15) := [0, 1, 2, 3, 4, 5, 6, 7, 8, 9, 10, 11, 12, 13, 14]

/-! ## The values stored -/

/-- The sums and the sums of squares of a batch, from its four chunks, as the body computes them. -/
def sPay (x0 x1 x2 x3 : Vec F S1x4096x64 .f32) : Vec F S1x2x64 .f32 :=
  k0_pay11 (k0_pay1 (F := F)) (k0_pay8 k0_pay1 (k0_pay4 x0) x1 x2) (k0_pay9 k0_pay1 k0_pay2 (k0_pay5 x0) x1 x2) x3

/-- The same values at the shape of a receive slot. -/
def rPay (x0 x1 x2 x3 : Vec F S1x4096x64 .f32) : Vec F S1x1x2x64 .f32 :=
  k0_pay12 (k0_pay1 (F := F)) (k0_pay8 k0_pay1 (k0_pay4 x0) x1 x2) (k0_pay9 k0_pay1 k0_pay2 (k0_pay5 x0) x1 x2) x3

/-- The output chunk from the sixteen gathered sums, an input chunk and the weights. -/
def oPay (v : Vec F S1x16x2x64 .f32) (x : Vec F S1x4096x64 .f32) (w : Vec F S64x128 .f32) : Vec F S1x4096x128 .f32 :=
  k0_pay28 v x w

/-! ## The steps -/

/-- Signal the barrier cell of device `e`. -/
def signal (e : Dev nD) (K : PR F) : PR F :=
  .op (.semSignal (Dev.tc e) barrier0 1) fun _ => K

/-- Start the copy in of chunk `q`. -/
def inStart (q : Fin 8) (K : PR F) : PR F :=
  .op (.enqueueDma (xHm q) (.here (xVm q)) (.dma (inSem q)) ((View.wordExact_bits rfl).reshape _ _) ((View.wordExact_bits rfl).reshape _ _) ⟨Or.inl rfl, trivial⟩) fun _ => K

/-- Wait for chunk `q` and read it. -/
def inWait (q : Fin 8) (K : Vec F S1x4096x64 .f32 → PR F) : PR F :=
  .op (.waitDma2 (inSem q) (xHm q) (xVm q) ((View.wordExact_bits rfl).reshape _ _) ((View.wordExact_bits rfl).reshape _ _)) fun _ =>
  .op (.load xV (rX q).toLoadRect (View.loadsAt_vmem h_S1x4096x64)) K

/-- Store the sums of batch `b` in the send buffer and in the core's own slot. -/
def putStats (b : Fin 2) (u : Vec F S1x2x64 .f32) (w : Vec F S1x1x2x64 .f32) (K : PR F) : PR F :=
  .op (.load sB (rB b).toLoadRect (View.loadsAt_vmem h_S1x2x64)) fun _ =>
  .op (.store sB (rB b) u Finset.univ (View.stores_vmem_bits_univ h_S1x2x64 rfl) (.inl rfl)) fun _ =>
  .op (.load aR (rR b 0).toLoadRect (View.loadsAt_vmem h_S1x1x2x64)) fun _ =>
  .op (.store aR (rR b 0) w Finset.univ (View.stores_vmem_bits_univ h_S1x1x2x64 rfl) (.inl rfl)) fun _ => K

/-- Read the four chunks of batch `b` and store their sums. -/
def stats (b : Fin 2) (K : PR F) : PR F :=
  inWait (ch b 0) fun x0 => inWait (ch b 1) fun x1 => inWait (ch b 2) fun x2 => inWait (ch b 3) fun x3 =>
  putStats b (sPay x0 x1 x2 x3) (rPay x0 x1 x2 x3) K

/-- Wait for the fifteen ready signals. -/
def barWait (K : PR F) : PR F :=
  .op (.semWait barrier0 15) fun _ => K

/-- Send the sums of batch `b` to device `e`, at distance `d`. -/
def send (b : Fin 2) (d : Fin 16) (e : Dev nD) (K : PR F) : PR F :=
  .op (.enqueueDma (sBm b) (.remote (Dev.tc e) (aRm b d) (.dma (sndSem b d))) (.dma (rcvSem b d)) ((View.wordExact_bits rfl).reshape _ _) ((View.wordExact_bits rfl).reshape _ _) ⟨⟨rfl, Or.inl rfl⟩, trivial⟩) fun _ => K

/-- Wait for the send of distance `d` and for the sums from distance `d`. -/
def waits (b : Fin 2) (d : Fin 16) (K : PR F) : PR F :=
  .op (.waitDma2 (sndSem b d) (aRm b d) (sBm b) ((View.wordExact_bits rfl).reshape _ _) ((View.wordExact_bits rfl).reshape _ _)) fun _ =>
  .op (.waitDma2 (rcvSem b d) (sBm b) (aRm b d) ((View.wordExact_bits rfl).reshape _ _) ((View.wordExact_bits rfl).reshape _ _)) fun _ => K

/-- Read the sixteen slots of batch `b`. -/
def gather (b : Fin 2) (K : Vec F S1x16x2x64 .f32 → PR F) : PR F :=
  .op (.load aR (rA b).toLoadRect (View.loadsAt_vmem h_S1x16x2x64)) K

/-- Compute output chunk `q` and start its copy out. -/
def outStart (q : Fin 8) (v : Vec F S1x16x2x64 .f32) (K : PR F) : PR F :=
  .op (.load xV (rX q).toLoadRect (View.loadsAt_vmem h_S1x4096x64)) fun x =>
  .op (.load wV rW.toLoadRect (View.loadsAt_vmem h_S64x128)) fun w =>
  .op (.load oV (rS (par q)).toLoadRect (View.loadsAt_vmem h_S1x4096x128)) fun _ =>
  .op (.store oV (rS (par q)) (oPay v x w) Finset.univ (View.stores_vmem_bits_univ h_S1x4096x128 rfl) (.inl rfl)) fun _ =>
  .op (.enqueueDma (oVm (par q)) (.here (oHm q)) (.dma (outSem (par q))) ((View.wordExact_bits rfl).reshape _ _) ((View.wordExact_bits rfl).reshape _ _) ⟨Or.inl rfl, trivial⟩) fun _ => K

/-- Wait for the copy out of chunk `q`. -/
def outWait (q : Fin 8) (K : PR F) : PR F :=
  .op (.waitDma2 (outSem (par q)) (oVm (par q)) (oHm q) ((View.wordExact_bits rfl).reshape _ _) ((View.wordExact_bits rfl).reshape _ _)) fun _ => K

/-- The body with its destination devices as tables. -/
def kernOf (sd : Dev nD → Fin 15 → Dev nD) (rd : Dev nD → Fin 2 → Fin 15 → Dev nD) : PR F :=
  .op .deviceId fun c =>
  js.foldr (fun j K => signal (sd c j) K) <|
  inStart 0 <| inStart 1 <| inStart 2 <| inStart 3 <| inStart 4 <| inStart 5 <| inStart 6 <| inStart 7 <|
  stats 0 <| barWait <|
  js.foldr (fun j K => send 0 (far j) (rd c 0 j) K) <|
  stats 1 <|
  js.foldr (fun j K => send 1 (far j) (rd c 1 j) K) <|
  js.foldr (fun j K => waits 0 (far j) K) <|
  gather 0 fun v =>
  outStart 0 v <| outStart 1 v <| outWait 0 <| outStart 2 v <| outWait 1 <| outStart 3 v <|
  js.foldr (fun j K => waits 1 (far j) K) <|
  gather 1 fun u =>
  outWait 2 <| outStart 4 u <| outWait 3 <| outStart 5 u <| outWait 4 <| outStart 6 u <| outWait 5 <| outStart 7 u <|
  outWait 6 <| outWait 7 <| .ret ⟨⟩

/-- The printed devices of the signals. -/
def sdev (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩]

/-- The printed devices of the sends of each batch. -/
def rdev (c : Dev nD) : Fin 2 → Fin 15 → Dev nD :=
  ![![⟨k0_dev16 c, k0_dev16_lt c⟩, ⟨k0_dev17 c, k0_dev17_lt c⟩, ⟨k0_dev18 c, k0_dev18_lt c⟩, ⟨k0_dev19 c, k0_dev19_lt c⟩,
      ⟨k0_dev20 c, k0_dev20_lt c⟩, ⟨k0_dev21 c, k0_dev21_lt c⟩, ⟨k0_dev22 c, k0_dev22_lt c⟩, ⟨k0_dev23 c, k0_dev23_lt c⟩,
      ⟨k0_dev24 c, k0_dev24_lt c⟩, ⟨k0_dev25 c, k0_dev25_lt c⟩, ⟨k0_dev26 c, k0_dev26_lt c⟩, ⟨k0_dev27 c, k0_dev27_lt c⟩,
      ⟨k0_dev28 c, k0_dev28_lt c⟩, ⟨k0_dev29 c, k0_dev29_lt c⟩, ⟨k0_dev30 c, k0_dev30_lt c⟩],
    ![⟨k0_dev31 c, k0_dev31_lt c⟩, ⟨k0_dev32 c, k0_dev32_lt c⟩, ⟨k0_dev33 c, k0_dev33_lt c⟩, ⟨k0_dev34 c, k0_dev34_lt c⟩,
      ⟨k0_dev35 c, k0_dev35_lt c⟩, ⟨k0_dev36 c, k0_dev36_lt c⟩, ⟨k0_dev37 c, k0_dev37_lt c⟩, ⟨k0_dev38 c, k0_dev38_lt c⟩,
      ⟨k0_dev39 c, k0_dev39_lt c⟩, ⟨k0_dev40 c, k0_dev40_lt c⟩, ⟨k0_dev41 c, k0_dev41_lt c⟩, ⟨k0_dev42 c, k0_dev42_lt c⟩,
      ⟨k0_dev43 c, k0_dev43_lt c⟩, ⟨k0_dev44 c, k0_dev44_lt c⟩, ⟨k0_dev45 c, k0_dev45_lt c⟩]]

/-- The device at distance `d` after `c` on the ring of sixteen. -/
def peer (c : Dev nD) (d : Fin 16) : Dev nD := ⟨(c.val + d.val) % 16, Nat.mod_lt _ (by decide)⟩

/-- The printed signals go to the devices at the distances `1` to `15`. -/
theorem sdev_eq (c : Dev nD) (j : Fin 15) : sdev c j = peer c (far j) := by
  apply Fin.ext
  fin_cases j
  exacts [k0_dev1_eq c, k0_dev2_eq c, k0_dev3_eq c, k0_dev4_eq c, k0_dev5_eq c, k0_dev6_eq c, k0_dev7_eq c, k0_dev8_eq c,
    k0_dev9_eq c, k0_dev10_eq c, k0_dev11_eq c, k0_dev12_eq c, k0_dev13_eq c, k0_dev14_eq c, k0_dev15_eq c]

/-- The printed sends go to the devices at the distances `1` to `15`. -/
theorem rdev_eq (c : Dev nD) (b : Fin 2) (j : Fin 15) : rdev c b j = peer c (far j) := by
  apply Fin.ext
  fin_cases b
  · fin_cases j
    exacts [k0_dev16_eq c, k0_dev17_eq c, k0_dev18_eq c, k0_dev19_eq c, k0_dev20_eq c, k0_dev21_eq c, k0_dev22_eq c, k0_dev23_eq c,
      k0_dev24_eq c, k0_dev25_eq c, k0_dev26_eq c, k0_dev27_eq c, k0_dev28_eq c, k0_dev29_eq c, k0_dev30_eq c]
  · fin_cases j
    exacts [k0_dev31_eq c, k0_dev32_eq c, k0_dev33_eq c, k0_dev34_eq c, k0_dev35_eq c, k0_dev36_eq c, k0_dev37_eq c, k0_dev38_eq c,
      k0_dev39_eq c, k0_dev40_eq c, k0_dev41_eq c, k0_dev42_eq c, k0_dev43_eq c, k0_dev44_eq c, k0_dev45_eq c]

/-- The body over the ring distances. -/
def kern : PR F := kernOf (fun c j => peer c (far j)) (fun c _ j => peer c (far j))

theorem kernOf_eq : (kernOf sdev rdev : PR F) = kern := by
  unfold kern
  congr 1
  · funext c j; exact sdev_eq c j
  · funext c b j; exact rdev_eq c b j

set_option maxHeartbeats 4000000 in
/-- The printed body at the buffers of the launch is the sequence of the steps. -/
theorem body_eq (t : Fin cfg0.N) : (bodyAt0 (F := F) t) = kern := by
  rw [← kernOf_eq]
  have ht : t = t0_0 := fin_N0 t
  subst ht
  unfold bodyAt0
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  rfl

end Cert.KernelIdeal.Body

end
-- ==== Proof.Contents.lean ====
/- What the kernel's buffers hold along a run, as functions of the inputs of every device: the input chunks,
   the sums of a batch, the sixteen gathered sums and the output; and that the pieces the steps read and
   write agree with them. -/
module

public import proofs.«01_k».proof.Proof.Body
public import Idealize.ShloMosaic.Lib.ValueIdxCoords
public import Idealize.ShloMosaic.Lib.ValueLayout
public import Idealize.ShloMosaic.Lib.ViewIndex

@[expose] public section

set_option maxRecDepth 16384

noncomputable section

namespace Cert.KernelIdeal.Body

open Idealize.ShloMosaic Idealize.ShloMosaic.TcCoe Idealize.SL Idealize.SL.Sem
open Idealize.ShloMosaic.ValueIdx
open Cert.KernelIdeal.Gen

variable {F : FTy → Type} [FloatOps F]

/-- The device at distance `d` before `c`. -/
def back (c : Dev nD) (d : Fin 16) : Dev nD := ⟨(c.val + (16 - d.val)) % 16, Nat.mod_lt _ (by decide)⟩

theorem back_peer (c : Dev nD) (d : Fin 16) : back (peer c d) d = c := by revert c d; decide
theorem peer_back (c : Dev nD) (d : Fin 16) : peer (back c d) d = c := by revert c d; decide
theorem back_zero (c : Dev nD) : back c 0 = c := by revert c; decide

/-- Contents of the device input, of the weights and of the four kernel buffers. -/
abbrev XC (F : FTy → Type) := (main_v1 : Ref sig .tc).ty.Contents (Elt F)
abbrev WC (F : FTy → Type) := (main_arg1 : Ref sig .tc).ty.Contents (Elt F)

/-- Chunk `q` of the input of a device, as a load reads it. -/
def xc (f : XC F) (q : Fin 8) : Vec F S1x4096x64 .f32 := xV.view.readAt (Elt F) (rX q).toLoadRect f

/-- The sums of batch `b` of a device, at the shape of a row of the send buffer. -/
def sVal (f : XC F) (b : Fin 2) : Vec F S1x2x64 .f32 := sPay (xc f (ch b 0)) (xc f (ch b 1)) (xc f (ch b 2)) (xc f (ch b 3))

/-- The sums of batch `b` of a device, at the shape of a receive slot. -/
def rVal (f : XC F) (b : Fin 2) : Vec F S1x1x2x64 .f32 := rPay (xc f (ch b 0)) (xc f (ch b 1)) (xc f (ch b 2)) (xc f (ch b 3))

/-- The send buffer once both batches are summed. -/
def SB (f : XC F) : (cc0_scratch2 : Ref sig .tc).ty.Contents (Elt F) :=
  fun (i : S2x2x64.Idx) => sVal f (i 0) (ix3 (0 : Fin 1) (i 1 : Fin 2) (i 2 : Fin 64))

/-- The receive buffer of device `c` once every sum has landed: slot `d` of a batch has the sums of the
    device at distance `d` before `c`. -/
def AR (X : Dev nD → XC F) (c : Dev nD) : (cc0_scratch3 : Ref sig .tc).ty.Contents (Elt F) :=
  fun (i : S2x16x2x64.Idx) => rVal (X (back c (i 1))) (i 0) (ix4 (0 : Fin 1) (0 : Fin 1) (i 2 : Fin 2) (i 3 : Fin 64))

/-- The sixteen gathered sums of batch `b`, as device `c` reads them. -/
def gV (X : Dev nD → XC F) (c : Dev nD) (b : Fin 2) : Vec F S1x16x2x64 .f32 := aR.view.readAt (Elt F) (rA b).toLoadRect (AR X c)

/-- The batch of a chunk. -/
abbrev bat (q : Fin 8) : Fin 2 := ⟨q.val / 4, by have := q.isLt; omega⟩

/-- Output chunk `q` of device `c`. -/
def oVal (X : Dev nD → XC F) (w : WC F) (c : Dev nD) (q : Fin 8) : Vec F S1x4096x128 .f32 :=
  oPay (gV X c (bat q)) (xc (X c) q) (wV.view.readAt (Elt F) rW.toLoadRect w)

/-- The output of device `c`. -/
def OUT (X : Dev nD → XC F) (w : WC F) (c : Dev nD) : (main_v2 : Ref sig .tc).ty.Contents (Elt F) :=
  fun (i : S2x16384x128.Idx) => oVal X w c
    ⟨4 * (i 0).val + (i 1).val / 4096, by have : (i 0).val < 2 := (i 0).isLt; have : (i 1).val < 16384 := (i 1).isLt; omega⟩
    (ix3 (0 : Fin 1) (⟨(i 1).val % 4096, Nat.mod_lt _ (by decide)⟩ : Fin 4096) (i 2 : Fin 128))

/-! ## Agreement of contents on a view -/

/-- Contents that a view reads alike agree on the view's elements. -/
theorem agree {sp : Space} {s : Shape} {e : EltTy} {v : View sig .tc sp s e} {f g : v.ty.Contents (Elt F)}
    (h : v.read (Elt F) f = v.read (Elt F) g) : ∀ i ∈ v.set, f i = g i := by
  intro i hi
  obtain ⟨x, -, rfl⟩ := Finset.mem_map.mp hi
  exact View.eq_of_read_eq (congrFun h x)

/-- What is written through a view over all of it agrees there with contents that read the same. -/
theorem agree_write {sp : Space} {s : Shape} {e : EltTy} {v : View sig .tc sp s e} {f g : v.ty.Contents (Elt F)} {w : s.Idx → Elt F e}
    (h : v.read (Elt F) g = w) : ∀ i ∈ v.set, v.write (Elt F) f w Finset.univ i = g i :=
  agree (by rw [View.read_write_univ, h])

/-! ## The rectangles at an index -/

theorem rX_emb (q : Fin 8) (a : Fin 1) (r : Fin 4096) (h : Fin 64) : (rX q).emb (ix3 a r h)
    = (ix3 (bat q) (⟨4096 * (q.val % 4) + r.val, by have := r.isLt; omega⟩ : Fin 16384) h : S2x16384x64.Idx) := by
  funext x; apply Fin.ext
  match x with
  | ⟨0, _⟩ => show q.val / 4 + 1 * a.val = q.val / 4; omega
  | ⟨1, _⟩ => show 4096 * (q.val % 4) + 1 * r.val = _; rw [one_mul]
  | ⟨2, _⟩ => show 0 + 1 * h.val = h.val; omega

theorem rO_emb (q : Fin 8) (a : Fin 1) (r : Fin 4096) (h : Fin 128) : (rO q).emb (ix3 a r h)
    = (ix3 (bat q) (⟨4096 * (q.val % 4) + r.val, by have := r.isLt; omega⟩ : Fin 16384) h : S2x16384x128.Idx) := by
  funext x; apply Fin.ext
  match x with
  | ⟨0, _⟩ => show q.val / 4 + 1 * a.val = q.val / 4; omega
  | ⟨1, _⟩ => show 4096 * (q.val % 4) + 1 * r.val = _; rw [one_mul]
  | ⟨2, _⟩ => show 0 + 1 * h.val = h.val; omega

theorem rB_emb (b : Fin 2) (a : Fin 1) (r : Fin 2) (h : Fin 64) : (rB b).emb (ix3 a r h) = (ix3 b r h : S2x2x64.Idx) := by
  funext x; apply Fin.ext
  match x with
  | ⟨0, _⟩ => show b.val + 1 * a.val = b.val; omega
  | ⟨1, _⟩ => show 0 + 1 * r.val = r.val; omega
  | ⟨2, _⟩ => show 0 + 1 * h.val = h.val; omega

theorem rR_emb (b : Fin 2) (d : Fin 16) (a a' : Fin 1) (r : Fin 2) (h : Fin 64) :
    (rR b d).emb (ix4 a a' r h) = (ix4 b d r h : S2x16x2x64.Idx) := by
  funext x; apply Fin.ext
  match x with
  | ⟨0, _⟩ => show b.val + 1 * a.val = b.val; omega
  | ⟨1, _⟩ => show d.val + 1 * a'.val = d.val; omega
  | ⟨2, _⟩ => show 0 + 1 * r.val = r.val; omega
  | ⟨3, _⟩ => show 0 + 1 * h.val = h.val; omega

theorem rA_emb (b : Fin 2) (a : Fin 1) (d : Fin 16) (r : Fin 2) (h : Fin 64) :
    (rA b).emb (ix4 a d r h) = (ix4 b d r h : S2x16x2x64.Idx) := by
  funext x; apply Fin.ext
  match x with
  | ⟨0, _⟩ => show b.val + 1 * a.val = b.val; omega
  | ⟨1, _⟩ => show 0 + 1 * d.val = d.val; omega
  | ⟨2, _⟩ => show 0 + 1 * r.val = r.val; omega
  | ⟨3, _⟩ => show 0 + 1 * h.val = h.val; omega

theorem fin1 (a : Fin 1) : a = 0 := Subsingleton.elim _ _

/-! ## The pieces -/

/-- The send buffer's row of a batch holds its sums. -/
theorem SB_read (f : XC F) (b : Fin 2) : (sB.access (rB b)).read (Elt F) (SB f) = sVal f b := by
  funext j
  obtain ⟨a, r, h, rfl⟩ : ∃ (a : Fin 1) (r : Fin 2) (h : Fin 64), j = ix3 a r h := ⟨_, _, _, eq_ix3 j⟩
  show SB f ((rB b).emb (ix3 a r h)) = _
  rw [rB_emb, fin1 a]
  rfl

/-- A core's own slot holds its own sums. -/
theorem AR_read (X : Dev nD → XC F) (c : Dev nD) (b : Fin 2) (d : Fin 16) :
    (aR.access (rR b d)).read (Elt F) (AR X c) = rVal (X (back c d)) b := by
  funext j
  obtain ⟨a, a', r, h, rfl⟩ : ∃ (a a' : Fin 1) (r : Fin 2) (h : Fin 64), j = ix4 a a' r h := ⟨_, _, _, _, eq_ix4 j⟩
  show AR X c ((rR b d).emb (ix4 a a' r h)) = _
  rw [rR_emb, fin1 a, fin1 a']
  rfl

/-- The gathered sums at an index. -/
theorem gV_apply (X : Dev nD → XC F) (c : Dev nD) (b : Fin 2) (a : Fin 1) (d : Fin 16) (r : Fin 2) (h : Fin 64) :
    gV X c b (ix4 a d r h) = rVal (X (back c d)) b (ix4 (0 : Fin 1) (0 : Fin 1) r h) := by
  show AR X c ((rA b).emb (ix4 a d r h)) = _
  rw [rA_emb]
  rfl

/-- The two shapes of the sums hold the same numbers. -/
theorem rVal_apply (f : XC F) (b : Fin 2) (r : Fin 2) (h : Fin 64) :
    rVal f b (ix4 (0 : Fin 1) (0 : Fin 1) r h) = sVal f b (ix3 (0 : Fin 1) r h) := by
  have e1 : (Shape.reshapeEquiv shapeCasts_S2x64_S1x1x2x64 : S1x1x2x64.Idx ≃ S2x64.Idx) (ix4 (0 : Fin 1) (0 : Fin 1) r h) = ix2 r h := by
    have e := reshapeEquiv_ix2_11ab (a := 2) (b := 64) shapeCasts_S1x1x2x64_S2x64 r h
    rw [show (ix4 (0 : Fin 1) (0 : Fin 1) r h : S1x1x2x64.Idx) = _ from e.symm, Shape.reshapeEquiv_reshapeEquiv, Shape.reshapeEquiv_self]
  unfold rVal sVal rPay sPay k0_pay12 k0_pay11
  show k0_pay10 _ _ _ _ (Shape.reshapeEquiv _ (ix4 (0 : Fin 1) (0 : Fin 1) r h)) = _
  rw [e1]
  exact (shapeCast_ab_1ab_apply _ _ _ _ _).symm

/-- A send writes at its target what the target is to hold: the sums of the sender. -/
theorem send_read (X : Dev nD → XC F) (c : Dev nD) (b : Fin 2) (d : Fin 16) :
    (aRm b d).view.read (Elt F) (AR X (peer c d)) = (sBm b).view.read (Elt F) (SB (X c)) := by
  funext j
  obtain ⟨r, h, rfl⟩ : ∃ (r : Fin 2) (h : Fin 64), j = ix2 r h := ⟨_, _, eq_ix2 j⟩
  show AR X (peer c d) ((rR b d).emb (Shape.reshapeEquiv _ (ix2 r h))) = SB (X c) ((rB b).emb (Shape.reshapeEquiv _ (ix2 r h)))
  rw [reshapeEquiv_ix2_11ab, reshapeEquiv_ix2_1ab, rR_emb, rB_emb]
  show rVal (X (back (peer c d) d)) b (ix4 0 0 r h) = sVal (X c) b (ix3 0 r h)
  rw [back_peer, rVal_apply]

/-- A copy in writes the input at its target. -/
theorem in_read (f : XC F) (q : Fin 8) : (xVm q).view.read (Elt F) f = (xHm q).view.read (Elt F) f := rfl

/-- A copy out writes the output chunk at its target. -/
theorem out_read (X : Dev nD → XC F) (w : WC F) (c : Dev nD) (q : Fin 8) (g : (cc0_scratch1 : Ref sig .tc).ty.Contents (Elt F))
    (hg : (oV.access (rS (par q))).read (Elt F) g = oVal X w c q) :
    (oHm q).view.read (Elt F) (OUT X w c) = (oVm (par q)).view.read (Elt F) g := by
  funext j
  have hj := congrFun hg
  show (fun k => OUT X w c ((rO q).emb k)) _ = (fun k => g ((rS (par q)).emb k)) _
  rw [show (fun k => g ((rS (par q)).emb k)) = oVal X w c q from hg]
  obtain ⟨r, h, rfl⟩ : ∃ (r : Fin 4096) (h : Fin 128), j = ix2 r h := ⟨_, _, eq_ix2 j⟩
  show OUT X w c ((rO q).emb (Shape.reshapeEquiv _ (ix2 r h))) = oVal X w c q (Shape.reshapeEquiv _ (ix2 r h))
  rw [reshapeEquiv_ix2_1ab, rO_emb]
  have hr := r.isLt
  have hq := q.isLt
  show oVal X w c ⟨4 * (q.val / 4) + (4096 * (q.val % 4) + r.val) / 4096, _⟩ (ix3 0 ⟨(4096 * (q.val % 4) + r.val) % 4096, _⟩ h) = _
  have e1 : (⟨4 * (q.val / 4) + (4096 * (q.val % 4) + r.val) / 4096, by omega⟩ : Fin 8) = q := Fin.ext (by show 4 * (q.val / 4) + (4096 * (q.val % 4) + r.val) / 4096 = q.val; omega)
  have e2 : (⟨(4096 * (q.val % 4) + r.val) % 4096, by omega⟩ : Fin 4096) = r := Fin.ext (by show (4096 * (q.val % 4) + r.val) % 4096 = r.val; omega)
  rw [e1, e2]
  rfl

end Cert.KernelIdeal.Body

end
-- ==== Proof.Protocol.lean ====
/- The protocol of the kernel's semaphores: on the barrier cell of a device fifteen duties, each handing over
   two receive slots of its payer; on every receive cell the landing of one sum; on every send cell the return
   of one share of the send buffer. What a core owes at each point, and that its waits are allowed. -/
module

public import proofs.«01_k».proof.Proof.Contents
public import Idealize.ShloMosaic.Lib.Rounds
public import Idealize.ShloMosaic.Lib.Tactic
public import Idealize.ShloMosaic.Lib.Transfers
public import Idealize.ShloMosaic.Lib.Pipeline.BigSepL
public import Idealize.ShloMosaic.Lib.Pipeline.RegionTalk
public import Idealize.ShloMosaic.Harness.Basic

@[expose] public section

set_option maxRecDepth 16384

noncomputable section

namespace Cert.KernelIdeal.Body

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation)
open Cert.KernelIdeal.Gen

variable {F : FTy → Type} [FloatOps F]

/-! ## The resource algebra -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's own cells: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Cells -/

abbrev barC (c : Dev nD) : GSem nD τ sig := ((c : Thread nD τ), .reg barrier0)
abbrev sndC (c : Dev nD) (b : Fin 2) (j : Fin 15) : GSem nD τ sig := ((c : Thread nD τ), .dma (sndSem b (far j)))
abbrev rcvC (c : Dev nD) (b : Fin 2) (j : Fin 15) : GSem nD τ sig := ((c : Thread nD τ), .dma (rcvSem b (far j)))

/-- What a semaphore is for. -/
inductive Role
  | bar
  | snd (b : Fin 2) (j : Fin 15)
  | rcv (b : Fin 2) (j : Fin 15)
  | other

/-- The role of a semaphore, read off its number. -/
def role : SemLoc sig → Role
  | .reg _ => .bar
  | .dma s =>
    if h : 9 ≤ s.val ∧ s.val < 41 ∧ 1 ≤ (s.val - 9) % 16 then
      .snd ⟨(s.val - 9) / 16, by omega⟩ ⟨(s.val - 9) % 16 - 1, by omega⟩
    else if h : 41 ≤ s.val ∧ s.val < 73 ∧ 1 ≤ (s.val - 41) % 16 then
      .rcv ⟨(s.val - 41) / 16, by omega⟩ ⟨(s.val - 41) % 16 - 1, by omega⟩
    else .other

theorem role_bar : role (.reg barrier0) = .bar := rfl
theorem role_snd (b : Fin 2) (j : Fin 15) : role (.dma (sndSem b (far j))) = .snd b j := by
  fin_cases b <;> fin_cases j <;> rfl
theorem role_rcv (b : Fin 2) (j : Fin 15) : role (.dma (rcvSem b (far j))) = .rcv b j := by
  fin_cases b <;> fin_cases j <;> rfl
theorem role_in (q : Fin 8) : role (.dma (inSem q)) = .other := by
  fin_cases q <;> rfl

/-- The units of one sent sum. -/
abbrev N : ℕ := (sBm 0).view.dmaCredit
theorem N_pos : 0 < N := View.dmaCredit_pos _ (by decide)

/-! ## Pieces held -/

variable (X : Dev nD → XC F)

/-- A receive slot of device `c`, whole. -/
abbrev aPts (c : Dev nD) (b : Fin 2) (d : Fin 16) (f : (cc0_scratch3 : Ref sig .tc).ty.Contents (Elt F)) : sProp 𝕄 :=
  (aRm b d).view.loc (c : Thread nD τ) ↦[(aRm b d).view.set]{fullShare} f
/-- A row of the send buffer of device `c`, at a share. -/
abbrev sPts (c : Dev nD) (b : Fin 2) (q : PosShare TreeShare) (f : (cc0_scratch2 : Ref sig .tc).ty.Contents (Elt F)) : sProp 𝕄 :=
  (sBm b).view.loc (c : Thread nD τ) ↦[(sBm b).view.set]{q} f

/-- What device `c` hands over with a ready signal: its two slots of distance `j`, at any contents, and that
    their cells are open. -/
def ready (c : Dev nD) (j : Fin 15) : sProp 𝕄 :=
  iprop(((∃ f, aPts c 0 (far j) f) ∗ reached ER (rcvC c 0 j) 0) ∗ ((∃ f, aPts c 1 (far j) f) ∗ reached ER (rcvC c 1 j) 0))

/-- The payload of duty `j` of the barrier cell of `c`: the slots of the device at distance `j` before `c` into
    which `c` will send. -/
def barPay (c : Dev nD) (j : Fin 15) : sProp 𝕄 := ready (back c (far j)) j.rev
def rcvPay (c : Dev nD) (b : Fin 2) (j : Fin 15) : sProp 𝕄 := aPts c b (far j) (AR X c)
def sndPay (c : Dev nD) (b : Fin 2) (j : Fin 15) : sProp 𝕄 := sPts c b (Transfers.shareTok fullShare 15 j) (SB (X c))

theorem back_rev (c : Dev nD) (j : Fin 15) : back c (far j) = peer c (far j.rev) := by revert c j; decide
theorem back_peer_far (c : Dev nD) (j : Fin 15) : back (peer c (far j)) (far j) = c := back_peer c (far j)

/-! ## The schedule -/

/-- One round on every cell of the protocol. -/
def Rd : Rounds.Schedule (GSem nD τ sig) (Fin 15) 𝕄 where
  duties g r := if r = 0 ∧ g.1.2 = .tc then (match role g.2 with | .bar => Finset.univ | .snd _ _ => {0} | .rcv _ _ => {0} | .other => ∅) else ∅
  unitless _ := False
  amount g _ _ := match role g.2 with | .bar => 1 | _ => N
  payload g _ j := match role g.2 with
    | .bar => barPay g.1.1 j
    | .snd b j => sndPay X g.1.1 b j
    | .rcv b j => rcvPay X g.1.1 b j
    | .other => iprop(emp)
  amount_pos g _ _ _ := by
    cases role g.2
    exacts [Nat.one_pos, N_pos, N_pos, N_pos]

instance Rd_payload_storable (g : GSem nD τ sig) (r : ℕ) (d : Fin 15) :
    BI.Storable (upEmb : UEmb _ 𝕄) ((Rd (F := F) X).payload g r d) := by
  show BI.Storable upEmb (match role g.2 with
    | .bar => barPay g.1.1 d
    | .snd b j => sndPay X g.1.1 b j
    | .rcv b j => rcvPay X g.1.1 b j
    | .other => iprop(emp))
  unfold barPay ready sndPay rcvPay
  split <;> infer_instance

section Sched

variable (c : Dev nD) (b : Fin 2) (j : Fin 15)

theorem duties_bar : (Rd (F := F) X).duties (barC c) 0 = Finset.univ := by
  dsimp only [Rd]; rw [if_pos ⟨rfl, rfl⟩]; rfl
theorem duties_snd : (Rd (F := F) X).duties (sndC c b j) 0 = {0} := by
  dsimp only [Rd]; rw [if_pos ⟨rfl, rfl⟩, role_snd]
theorem duties_rcv : (Rd (F := F) X).duties (rcvC c b j) 0 = {0} := by
  dsimp only [Rd]; rw [if_pos ⟨rfl, rfl⟩, role_rcv]
theorem duties_later (g : GSem nD τ sig) : ∀ r, 1 ≤ r → (Rd (F := F) X).duties g r = ∅ :=
  fun r hr => by dsimp only [Rd]; rw [if_neg (fun h => by omega)]

theorem amount_bar (d : Fin 15) : (Rd (F := F) X).amount (barC c) 0 d = 1 := rfl
theorem amount_snd (d : Fin 15) : (Rd (F := F) X).amount (sndC c b j) 0 d = N := by dsimp only [Rd]; rw [role_snd]
theorem amount_rcv (d : Fin 15) : (Rd (F := F) X).amount (rcvC c b j) 0 d = N := by dsimp only [Rd]; rw [role_rcv]

theorem expect_bar : (Rd (F := F) X).expect (barC c) 0 = 15 := by
  unfold Schedule.expect Schedule.amountOf
  rw [duties_bar, Finset.sum_congr rfl fun d _ => amount_bar X c d]; rfl
theorem expect_snd : (Rd (F := F) X).expect (sndC c b j) 0 = N := by
  unfold Schedule.expect Schedule.amountOf; rw [duties_snd, Finset.sum_singleton, amount_snd]
theorem expect_rcv : (Rd (F := F) X).expect (rcvC c b j) 0 = N := by
  unfold Schedule.expect Schedule.amountOf; rw [duties_rcv, Finset.sum_singleton, amount_rcv]

theorem payload_bar (d : Fin 15) : (Rd (F := F) X).payload (barC c) 0 d = barPay c d := rfl
theorem payload_snd (d : Fin 15) : (Rd (F := F) X).payload (sndC c b j) 0 d = sndPay X c b j := by dsimp only [Rd]; rw [role_snd]
theorem payload_rcv (d : Fin 15) : (Rd (F := F) X).payload (rcvC c b j) 0 d = rcvPay X c b j := by dsimp only [Rd]; rw [role_rcv]

theorem rest_bar : bigSep ((Rd (F := F) X).duties (barC c) 0 \ ∅) (fun d => (Rd (F := F) X).payload (barC c) 0 d)
    = bigSep Finset.univ fun d => barPay c d := by
  rw [Finset.sdiff_empty, duties_bar]; rfl
theorem rest_snd : bigSep ((Rd (F := F) X).duties (sndC c b j) 0 \ ∅) (fun d => (Rd (F := F) X).payload (sndC c b j) 0 d) = sndPay X c b j := by
  rw [Finset.sdiff_empty, duties_snd, bigSep_singleton, payload_snd]
theorem rest_rcv : bigSep ((Rd (F := F) X).duties (rcvC c b j) 0 \ ∅) (fun d => (Rd (F := F) X).payload (rcvC c b j) 0 d) = rcvPay X c b j := by
  rw [Finset.sdiff_empty, duties_rcv, bigSep_singleton, payload_rcv]

/-- The barrier's payloads by the distance at which `c` sends: the slots of its fifteen peers. -/
theorem barPays_peers : (bigSep Finset.univ fun d => (barPay c d : sProp 𝕄))
    = bigSep Finset.univ fun j : Fin 15 => (ready (peer c (far j)) j : sProp 𝕄) := by
  rw [bigSep_univ_equiv (Fin.revPerm : Fin 15 ≃ Fin 15) (fun j : Fin 15 => (ready (peer c (far j)) j : sProp 𝕄))]
  exact bigSep_congr fun j _ => by unfold barPay; rw [back_rev]; rfl

theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

end Sched

/-! ## What a core owes; the levels -/

/-- What is still owed to the barrier cells of the peers at the distances of `l`, above `O`. -/
def oweB (c : Dev nD) (l : List (Fin 15)) (O : CellTallies nD τ sig Unit) : CellTallies nD τ sig Unit :=
  l.foldr (fun j o => o + tallyAt (barC (peer c (far j))) () 1) O
/-- What is still owed to the receive cells of batch `b` of those peers, above `O`. -/
def oweR (c : Dev nD) (b : Fin 2) (l : List (Fin 15)) (O : CellTallies nD τ sig Unit) : CellTallies nD τ sig Unit :=
  l.foldr (fun j o => o + tallyAt (rcvC (peer c (far j)) b j) () N) O

/-- What a core owes at its start. -/
def O₀ (c : Dev nD) : CellTallies nD τ sig Unit := oweB c js (oweR c 0 js (oweR c 1 js 0))

def L (g : GSem nD τ sig) : Finset Unit := if g.1.2 = .tc then {()} else ∅
/-- Barrier cells at 1, receive cells at 2, the rest at 0. -/
def lv (g : GSem nD τ sig) (_ : Unit) : ℕ := match role g.2 with | .bar => 1 | .rcv _ _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- Everything owed is at a level above `n`. -/
def Above (n : ℕ) (O : CellTallies nD τ sig Unit) : Prop := ∀ (g : GSem nD τ sig) (u : Unit), 0 < O g u → u ∈ L g ∧ n < lv g u

theorem above_zero (n : ℕ) : Above n 0 := fun g u h => absurd h (Nat.lt_irrefl 0)
theorem above_add {n : ℕ} {O : CellTallies nD τ sig Unit} (h : Above n O) (c : Dev nD) (sm : SemLoc sig) (k : ℕ)
    (hl : n < lv ((c : Thread nD τ), sm) ()) : Above n (O + tallyAt ((c : Thread nD τ), sm) () k) := by
  intro g u hg
  rw [Pi.add_apply, Finsupp.add_apply] at hg
  rcases Nat.add_pos_iff_pos_or_pos.mp hg with hg | hg
  · exact h g u hg
  · rw [tallyAt_apply] at hg
    split at hg
    · next e => rw [e.1]; exact ⟨by rw [L_tc]; exact Finset.mem_singleton_self _, hl⟩
    · exact absurd hg (Nat.lt_irrefl 0)

theorem above_oweB {c : Dev nD} {O : CellTallies nD τ sig Unit} (h : Above 0 O) : ∀ l : List (Fin 15), Above 0 (oweB c l O)
  | [] => h
  | j :: l => above_add (above_oweB h l) _ _ _ (by dsimp only [lv]; rw [role_bar]; decide)
theorem above_oweR {n : ℕ} (hn : n < 2) {c : Dev nD} {b : Fin 2} {O : CellTallies nD τ sig Unit} (h : Above n O) :
    ∀ l : List (Fin 15), Above n (oweR c b l O)
  | [] => h
  | j :: l => above_add (above_oweR hn h l) _ _ _ (by dsimp only [lv]; rw [role_rcv]; exact hn)

theorem above_O₀ (c : Dev nD) : Above 0 (O₀ c) :=
  above_oweB (above_oweR (by decide) (above_oweR (by decide) (above_zero 0) js) js) js

/-- A core may wait on a semaphore at a level below everything it owes. -/
theorem mayWait (c : Dev nD) (sm : SemLoc sig) (n : ℕ) (hn : lv ((c : Thread nD τ), sm) () ≤ n) {O : CellTallies nD τ sig Unit} (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact hn)
    (fun g u hg => (h g u hg).2)

/-! ## The cells' records -/

/-- The semaphores that other devices or the kernel's own sends credit: of each side, batch and distance. -/
def xsem (k : Bool × Fin 2 × Fin 15) : SemLoc sig :=
  if k.1 then .dma (rcvSem k.2.1 (far k.2.2)) else .dma (sndSem k.2.1 (far k.2.2))

def barEmb : Dev nD ↪ GSem nD τ sig := ⟨fun c => barC c, fun _ _ h => congrArg (fun g : GSem nD τ sig => g.1.1) h⟩
theorem xsem_inj : Function.Injective xsem := by
  intro k k' h
  have e : role (xsem k) = role (xsem k') := congrArg role h
  obtain ⟨s, b, j⟩ := k; obtain ⟨s', b', j'⟩ := k'
  cases s <;> cases s' <;> simp only [xsem, if_true, if_false, Bool.false_eq_true, role_snd, role_rcv] at e <;> cases e <;> rfl
def scEmb : Dev nD × (Bool × Fin 2 × Fin 15) ↪ GSem nD τ sig :=
  ⟨fun ck => ((ck.1 : Thread nD τ), xsem ck.2), fun _ _ h =>
    Prod.ext (congrArg (fun g : GSem nD τ sig => g.1.1) h) (xsem_inj (congrArg Prod.snd h))⟩

abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem snd_mem (c : Dev nD) (b : Fin 2) (j : Fin 15) : sndC c b j ∈ (barCells ∪ scCells : Finset (GSem nD τ sig)) :=
  Finset.mem_union_right _ (Finset.mem_map_of_mem scEmb (Finset.mem_univ (c, (false, b, j))))
theorem rcv_mem (c : Dev nD) (b : Fin 2) (j : Fin 15) : rcvC c b j ∈ (barCells ∪ scCells : Finset (GSem nD τ sig)) :=
  Finset.mem_union_right _ (Finset.mem_map_of_mem scEmb (Finset.mem_univ (c, (true, b, j))))

/-- Every cell's invariant, that the barrier cells are at their round, and the levels. -/
def records (κ : GSem nD τ sig → ℕ) : sProp 𝕄 :=
  iprop((bigSep (barCells ∪ scCells) fun g => cellInv ER (Rd X) (κ g) g) ∗ bigSep barCells fun g => reached ER g 0)
instance records_persistent (κ : GSem nD τ sig → ℕ) : BI.Persistent (records X κ) := by unfold records; infer_instance

theorem records_inv (κ : GSem nD τ sig → ℕ) {g : GSem nD τ sig} (hg : g ∈ (barCells ∪ scCells : Finset (GSem nD τ sig))) :
    (records X κ : sProp 𝕄) ⊢ cellInv ER (Rd X) (κ g) g := by
  unfold records; exact sep_elim_left.trans (bigSep_elim hg)
theorem records_bar (κ : GSem nD τ sig → ℕ) (c : Dev nD) : (records X κ : sProp 𝕄) ⊢ reached ER (barC c) 0 := by
  unfold records; exact sep_elim_right.trans (bigSep_elim (Finset.mem_map_of_mem barEmb (Finset.mem_univ c)))

end Cert.KernelIdeal.Body

end
-- ==== Proof.Steps.lean ====
/- The steps of the body as rules: from what a step needs held, and what follows it once it gives that back,
   the step and what follows. The repeated steps go by induction over their list of distances. -/
module

public import proofs.«01_k».proof.Proof.Protocol

@[expose] public section

set_option maxRecDepth 16384

noncomputable section

namespace Cert.KernelIdeal.Body

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

abbrev 𝒱₀ : Variants := Variants.none

/-- A program run to the end on device `c`. -/
abbrev WP (c : Dev nD) (P : PR F) (Q : PUnit → sProp 𝕄) : sProp 𝕄 :=
  wp frame (wpE (defs₀ (F := F)) 𝒱₀ (c : Thread nD τ) none) Set.univ P Q

/-- A core owing `O`, its waits not recorded. -/
def ow (c : Dev nD) (O : CellTallies nD τ sig Unit) : sProp 𝕄 := iprop(∃ W, owes (c : Thread nD τ) O W)

variable (X : Dev nD → XC F) (w : WC F) (κ : GSem nD τ sig → ℕ) (c : Dev nD)

/-! ## The ready signals -/

theorem signals (Q : PUnit → sProp 𝕄) (K : PR F) (O : CellTallies nD τ sig Unit) : ∀ l : List (Fin 15),
    iprop(records X κ ∗ ow c (oweB c l O)
        ∗ bigSepL l (fun j => iprop(dutyTok ER (barC (peer c (far j))) 0 j ∗ ready c j.rev)))
      ⊢ iprop((ow c O -∗ WP c K Q) -∗ WP c (l.foldr (fun j K => signal (peer c (far j)) K) K) Q)
  | [] => by
    iintro ⟨-, HO, -⟩ Hk
    iapply Hk; iexact HO
  | j :: l => by
    have ih := signals Q K O l
    rw [bigSepL_cons']
    unfold ow at ih ⊢
    iintro ⟨#HR, ⟨%W, HO⟩, ⟨Ht, Hp⟩, Hl⟩ Hk
    rw [List.foldr_cons]; unfold signal
    iapply (Rounds.wp_signal 𝒱₀ ER (Rd X) (c : Thread nD τ) none (dst := (peer c (far j) : Thread nD τ)) (sem := barrier0) (r := 0) (d := j)
        (κ := κ (barC (peer c (far j)))) (by rw [duties_bar]; exact Finset.mem_univ _) (amount_bar X (peer c (far j)) j) ()
        (oweB c l O) rfl) $$ [HO Ht Hp]
    · isplitr; · iapply (records_inv X κ (bar_mem (peer c (far j)))); iexact HR
      isplitl [HO]; · iexact HO
      isplitl [Ht]; · iexact Ht
      isplitl [Hp]
      · rw [payload_bar]; unfold barPay; rw [back_peer_far]; iexact Hp
      · iapply (records_bar X κ (peer c (far j))); iexact HR
    iintro HO
    iapply ih $$ [HO Hl]
    · isplitr; · iexact HR
      isplitl [HO]; · iexists W; iexact HO
      iexact Hl
    iexact Hk

/-! ## The barrier wait -/

theorem barStep (Q : PUnit → sProp 𝕄) (K : PR F) (O : CellTallies nD τ sig Unit) (hO : Above 1 O) :
    iprop(records X κ ∗ levAts L lv ∗ ow c O ∗ cred (tallyAt (barC c) () 15) ∗ atPos ER (barC c) 0 ∅ 0)
      ⊢ iprop((ow c O ∗ atPos ER (barC c) (0 + 1) ∅ 0 ∗ bigSep Finset.univ (fun j : Fin 15 => ready (peer c (far j)) j) -∗ WP c K Q)
        -∗ WP c (barWait K) Q) := by
  unfold ow
  iintro ⟨#HR, #HL, ⟨%W, HO⟩, Hc, Hat⟩ Hk
  unfold barWait
  iapply (Rounds.wp_wait_rest_token 𝒱₀ ER (Rd X) (c : Thread nD τ) none (κ := κ (barC c))
      (wpE_semWait_eq 𝒱₀ (c : Thread nD τ) none Set.univ) (Set.mem_univ _) () (O := O) (W := W) (R := 0) (m := 0) (T := ∅)
      ((Nat.zero_add _).trans (expect_bar X c).symm)) $$ [Hc HO Hat]
  · isplitr; · iapply (records_inv X κ (bar_mem c)); iexact HR
    isplitl [Hc]; · iexact Hc
    isplitl [HO]; · iexact HO
    isplitr; · iapply (mayWait c (.reg barrier0) 1 (le_of_eq (by dsimp only [lv]; rw [role_bar])) hO); iexact HL
    iexact Hat
  iintro ⟨HO, Hat, -, Hpay⟩
  iapply Hk
  isplitl [HO]; · iexists _; iexact HO
  isplitl [Hat]; · iexact Hat
  iapply (Entails.of_eq ((rest_bar X c).trans (barPays_peers c))) $$ Hpay

/-! ## The sends of a batch -/

/-- What one send needs: a share of the send buffer, the slot at the peer, both duties. -/
def sendPre (b : Fin 2) (j : Fin 15) : sProp 𝕄 :=
  iprop(sndPay X c b j ∗ ((∃ f, aPts (peer c (far j)) b (far j) f) ∗ reached ER (rcvC (peer c (far j)) b j) 0)
    ∗ dutyTok ER (sndC c b j) 0 0 ∗ reached ER (sndC c b j) 0 ∗ dutyTok ER (rcvC (peer c (far j)) b j) 0 0)

theorem N_eq (b : Fin 2) (j : Fin 15) : (aRm b (far j)).view.amount (.dma (rcvSem b (far j))) = N := rfl

theorem landed (b : Fin 2) (j : Fin 15) (fd : (cc0_scratch3 : Ref sig .tc).ty.Contents (Elt F)) :
    (aPts (peer c (far j)) b (far j) ((aRm b (far j)).view.write (Elt F) fd ((sBm b).view.read (Elt F) (SB (X c))) Finset.univ) : sProp 𝕄)
      ⊢ rcvPay X (peer c (far j)) b j := by
  unfold rcvPay
  exact Entails.of_eq (pointsTo_congr (agree_write (send_read X c b (far j))))

theorem sends (Q : PUnit → sProp 𝕄) (K : PR F) (b : Fin 2) (O : CellTallies nD τ sig Unit) : ∀ l : List (Fin 15),
    iprop(records X κ ∗ ow c (oweR c b l O) ∗ bigSepL l (fun j => sendPre X c b j))
      ⊢ iprop((ow c O ∗ bigSepL l (fun j => cred (tallyAt (sndC c b j) () N)) -∗ WP c K Q)
        -∗ WP c (l.foldr (fun j K => send b (far j) (peer c (far j)) K) K) Q)
  | [] => by
    iintro ⟨-, HO, -⟩ Hk
    iapply Hk; isplitl [HO]; · iexact HO
    iempintro
  | j :: l => by
    have ih := sends Q K b O l
    rw [bigSepL_cons', bigSepL_cons']
    unfold ow at ih ⊢
    conv => lhs; unfold sendPre sndPay
    iintro ⟨#HR, ⟨%W, HO⟩, ⟨Hs, ⟨⟨%fd, Hd⟩, #HrV⟩, Ht, #HrS, Ht'⟩, Hl⟩ Hk
    rw [List.foldr_cons]; unfold send
    iapply (Rounds.wp_send_pointsTo 𝒱₀ ER (Rd X) (c : Thread nD τ) none (c' := (peer c (far j) : Thread nD τ)) (src := sBm b) (dst := aRm b (far j))
        (sS := .dma (sndSem b (far j))) (sem := .dma (rcvSem b (far j))) (q := Transfers.shareTok fullShare 15 j) (fs := SB (X c))
        (κ₁ := κ (sndC c b j)) (κ₂ := κ (rcvC (peer c (far j)) b j)) (r₁ := 0) (r₂ := 0) (d₁ := 0) (d₂ := 0) (fd := fd)
        (by rw [duties_snd]; exact Finset.mem_singleton_self _) (by rw [duties_rcv]; exact Finset.mem_singleton_self _)
        () () N (N_eq b j) (amount_snd X c b j 0) (amount_rcv X (peer c (far j)) b j 0) (oweR c b l O) rfl (W := W)
        (by rw [payload_snd]; exact BI.Entails.refl _)
        (by rw [payload_rcv]; exact landed X c b j fd)) $$ [Hs Hd HO Ht Ht']
    · isplitr; · iapply (records_inv X κ (snd_mem c b j)); iexact HR
      isplitr; · iapply (records_inv X κ (rcv_mem (peer c (far j)) b j)); iexact HR
      isplitl [Hs]; · iexact Hs
      isplitl [Hd]; · iexact Hd
      isplitl [HO]; · iexact HO
      isplitl [Ht]; · iexact Ht
      isplitr; · iexact HrS
      isplitl [Ht']; · iexact Ht'
      iexact HrV
    iintro ⟨Hc, HO⟩
    iapply ih $$ [HO Hl]
    · isplitr; · iexact HR
      isplitl [HO]; · iexists W; iexact HO
      iexact Hl
    iintro ⟨HO, Hcs⟩
    iapply Hk
    isplitl [HO]; · iexact HO
    isplitl [Hc] <;> iassumption

/-! ## The waits of a batch -/

def waitPre (b : Fin 2) (j : Fin 15) : sProp 𝕄 :=
  iprop(cred (tallyAt (sndC c b j) () N) ∗ cred (tallyAt (rcvC c b j) () N) ∗ atPos ER (sndC c b j) 0 ∅ 0 ∗ atPos ER (rcvC c b j) 0 ∅ 0)
def waitPost (b : Fin 2) (j : Fin 15) : sProp 𝕄 :=
  iprop(sndPay X c b j ∗ rcvPay X c b j ∗ atPos ER (sndC c b j) (0 + 1) ∅ 0 ∗ atPos ER (rcvC c b j) (0 + 1) ∅ 0)

theorem waitss (Q : PUnit → sProp 𝕄) (K : PR F) (b : Fin 2) : ∀ l : List (Fin 15),
    iprop(records X κ ∗ ow c 0 ∗ bigSepL l (fun j => waitPre c b j))
      ⊢ iprop((ow c 0 ∗ bigSepL l (fun j => waitPost X c b j) -∗ WP c K Q)
        -∗ WP c (l.foldr (fun j K => waits b (far j) K) K) Q)
  | [] => by
    iintro ⟨-, HO, -⟩ Hk
    iapply Hk; isplitl [HO]; · iexact HO
    iempintro
  | j :: l => by
    have ih := waitss Q K b l
    rw [bigSepL_cons', bigSepL_cons']
    unfold ow at ih ⊢
    conv => lhs; unfold waitPre
    iintro ⟨#HR, ⟨%W, HO⟩, ⟨HcS, HcV, HaS, HaV⟩, Hl⟩ Hk
    rw [List.foldr_cons]; unfold waits
    iapply (Rounds.wp_wait_rest_token 𝒱₀ ER (Rd X) (c : Thread nD τ) none (κ := κ (sndC c b j))
        (wpE_waitDma2_eq (src := aRm b (far j)) (dst := sBm b) 𝒱₀ (c : Thread nD τ) none Set.univ) (Set.mem_univ _) () (O := 0) (W := W) (R := 0) (m := 0) (T := ∅)
        ((Nat.zero_add _).trans (expect_snd X c b j).symm)) $$ [HcS HO HaS]
    · isplitr; · iapply (records_inv X κ (snd_mem c b j)); iexact HR
      isplitl [HcS]; · iexact HcS
      isplitl [HO]; · iexact HO
      isplitr; · rw [MayWait_zero]; iempintro
      iexact HaS
    iintro ⟨HO, HaS, -, Hpay⟩
    ihave Hs := (Entails.of_eq (rest_snd X c b j)) $$ Hpay
    iapply (Rounds.wp_wait_rest_token 𝒱₀ ER (Rd X) (c : Thread nD τ) none (κ := κ (rcvC c b j))
        (wpE_waitDma2_eq (src := sBm b) (dst := aRm b (far j)) 𝒱₀ (c : Thread nD τ) none Set.univ) (Set.mem_univ _) () (O := 0) (R := 0) (m := 0) (T := ∅)
        ((Nat.zero_add _).trans (expect_rcv X c b j).symm)) $$ [HcV HO HaV]
    · isplitr; · iapply (records_inv X κ (rcv_mem c b j)); iexact HR
      isplitl [HcV]; · iexact HcV
      isplitl [HO]; · iexact HO
      isplitr; · rw [MayWait_zero]; iempintro
      iexact HaV
    iintro ⟨HO, HaV, -, Hpay⟩
    ihave Hv := (Entails.of_eq (rest_rcv X c b j)) $$ Hpay
    iapply ih $$ [HO Hl]
    · isplitr; · iexact HR
      isplitl [HO]; · iexists _; iexact HO
      iexact Hl
    iintro ⟨HO, Hcs⟩
    iapply Hk
    isplitl [HO]; · iexact HO
    isplitr [Hcs]
    · unfold waitPost
      isplitl [Hs]; · iexact Hs
      isplitl [Hv]; · iexact Hv
      isplitl [HaS] <;> iassumption
    iexact Hcs

/-! ## The copies in and the sums -/

/-- A chunk of the input as the device's main memory holds it, and as the kernel's buffer does. -/
abbrev xhPts (q : Fin 8) (f : XC F) : sProp 𝕄 := (xHm q).view.loc (c : Thread nD τ) ↦[(xHm q).view.set]{fullShare} f
abbrev xvPts (q : Fin 8) (f : XC F) : sProp 𝕄 := (xVm q).view.loc (c : Thread nD τ) ↦[(xVm q).view.set]{fullShare} f
abbrev ohPts (q : Fin 8) (f : (main_v2 : Ref sig .tc).ty.Contents (Elt F)) : sProp 𝕄 :=
  (oHm q).view.loc (c : Thread nD τ) ↦[(oHm q).view.set]{fullShare} f
abbrev ovPts (s : Fin 2) (f : (cc0_scratch1 : Ref sig .tc).ty.Contents (Elt F)) : sProp 𝕄 :=
  (oVm s).view.loc (c : Thread nD τ) ↦[(oVm s).view.set]{fullShare} f

abbrev NX : ℕ := (xVm 0).view.dmaCredit
theorem NX_pos : 0 < NX := View.dmaCredit_pos _ (by decide)
abbrev NO : ℕ := (oHm 0).view.dmaCredit
theorem NO_pos : 0 < NO := View.dmaCredit_pos _ (by decide)

theorem xV_set (q : Fin 8) : (xVm q).view.set = xV.view.setOn (rX q).set := (View.set_reshape _ _).trans (View.set_slice _ _)

/-- The copy in of chunk `q`, in flight. -/
def inFl (q : Fin 8) : sProp 𝕄 :=
  iprop(∃ fd, Transfers.Flight countersEmb (c : Thread nD τ) (.dma (inSem q)) () NX
    iprop((xvPts c q ((xVm q).view.write (Elt F) fd ((xHm q).view.read (Elt F) (X c)) Finset.univ)) ∗ xhPts c q (X c)))

theorem inStart_step (Q : PUnit → sProp 𝕄) (K : PR F) (q : Fin 8) :
    iprop(xhPts c q (X c) ∗ (∃ f, xvPts c q f) ∗ semVal ((c : Thread nD τ), .dma (inSem q)) 0)
      ⊢ iprop((inFl X c q -∗ WP c K Q) -∗ WP c (inStart q K) Q) := by
  iintro ⟨Hs, ⟨%fd, Hd⟩, Hv⟩ Hk
  unfold inStart
  iapply (Transfers.wp_dmaLocal countersEmb 𝒱₀ (c : Thread nD τ) none (src := xHm q) (via := .same) (dst := xVm q) (sm := .dma (inSem q))
      (q := fullShare) (fs := X c) (fd := fd) () NX rfl NX_pos (Finset.Subset.refl _)) $$ [Hs Hd Hv]
  · isplitl [Hs]; · iexact Hs
    isplitl [Hd] <;> iassumption
  iintro Hf
  iapply Hk
  unfold inFl
  iexists fd; iexact Hf

theorem inWait_step (Q : PUnit → sProp 𝕄) (K : Vec F S1x4096x64 .f32 → PR F) (q : Fin 8) (O : CellTallies nD τ sig Unit) (hO : Above 0 O) :
    iprop(levAts L lv ∗ ow c O ∗ inFl X c q)
      ⊢ iprop((ow c O ∗ xvPts c q (X c) ∗ xhPts c q (X c) ∗ semVal ((c : Thread nD τ), .dma (inSem q)) 0 -∗ WP c (K (xc (X c) q)) Q)
        -∗ WP c (inWait q K) Q) := by
  unfold ow inFl
  iintro ⟨#HL, ⟨%W, HO⟩, ⟨%fd, Hf⟩⟩ Hk
  unfold inWait
  iapply (Transfers.wp_waitLocalO countersEmb 𝒱₀ (c : Thread nD τ) none () (rfl : (xVm q).view.dmaCredit = NX) (O := O) (W := W)) $$ [Hf HO]
  · isplitl [Hf]; · iexact Hf
    isplitl [HO]; · iexact HO
    iapply (mayWait c (.dma (inSem q)) 0 (le_of_eq (by dsimp only [lv]; rw [role_in])) hO); iexact HL
  iintro ⟨⟨Hd, Hs⟩, Hv, HO⟩
  ihave Hd := (Entails.of_eq (pointsTo_congr (agree_write (in_read (X c) q)))) $$ Hd
  iapply (wp_load 𝒱₀ (c : Thread nD τ) none Set.univ (m := xV) (r := (rX q).toLoadRect) (f := X c)
      (S := (xVm q).view.set) (xV_set q).ge) $$ Hd
  iintro Hd
  iapply Hk
  isplitl [HO]; · iexists _; iexact HO
  isplitl [Hd]; · iexact Hd
  isplitl [Hs] <;> iassumption

theorem sB_set (b : Fin 2) : (sBm b).view.set = sB.view.setOn (rB b).set := (View.set_reshape _ _).trans (View.set_slice _ _)
theorem sB_acc (b : Fin 2) : (sBm b).view.set = (sB.access (rB b)).set := View.set_reshape _ _
theorem aR_set (b : Fin 2) (d : Fin 16) : (aRm b d).view.set = aR.view.setOn (rR b d).set := (View.set_reshape _ _).trans (View.set_slice _ _)
theorem aR_acc (b : Fin 2) (d : Fin 16) : (aRm b d).view.set = (aR.access (rR b d)).set := View.set_reshape _ _
theorem oV_set (s : Fin 2) : (oVm s).view.set = oV.view.setOn (rS s).set := (View.set_reshape _ _).trans (View.set_slice _ _)
theorem oV_acc (s : Fin 2) : (oVm s).view.set = (oV.access (rS s)).set := View.set_reshape _ _

theorem sB_back (b : Fin 2) (f : (cc0_scratch2 : Ref sig .tc).ty.Contents (Elt F)) :
    ∀ i ∈ (sBm b).view.set, (sB.access (rB b)).write (Elt F) f (sVal (X c) b) Finset.univ i = SB (X c) i := by
  rw [sB_acc]; exact agree_write (SB_read (X c) b)

theorem aR_back (b : Fin 2) (f : (cc0_scratch3 : Ref sig .tc).ty.Contents (Elt F)) :
    ∀ i ∈ (aRm b 0).view.set, (aR.access (rR b 0)).write (Elt F) f (rVal (X c) b) Finset.univ i = AR X c i := by
  have h := AR_read X c b 0
  rw [back_zero] at h
  rw [aR_acc]; exact agree_write h

theorem putStats_step (Q : PUnit → sProp 𝕄) (K : PR F) (b : Fin 2) :
    iprop((∃ f, sPts c b fullShare f) ∗ (∃ f, aPts c b 0 f))
      ⊢ iprop((sPts c b fullShare (SB (X c)) ∗ aPts c b 0 (AR X c) -∗ WP c K Q)
        -∗ WP c (putStats b (sVal (X c) b) (rVal (X c) b) K) Q) := by
  iintro ⟨⟨%f, Hs⟩, ⟨%g, Ha⟩⟩ Hk
  unfold putStats
  iapply (wp_load 𝒱₀ (c : Thread nD τ) none Set.univ (m := sB) (r := (rB b).toLoadRect) (f := f) (S := (sBm b).view.set) (sB_set b).ge) $$ Hs
  iintro Hs
  iapply (wp_store 𝒱₀ (c : Thread nD τ) none Set.univ (m := sB) (r := rB b) (w := sVal (X c) b) (Mk := Finset.univ) (f := f)
    (S := (sBm b).view.set) (sB_acc b).ge) $$ Hs
  iintro Hs
  iapply (wp_load 𝒱₀ (c : Thread nD τ) none Set.univ (m := aR) (r := (rR b 0).toLoadRect) (f := g) (S := (aRm b 0).view.set) (aR_set b 0).ge) $$ Ha
  iintro Ha
  iapply (wp_store 𝒱₀ (c : Thread nD τ) none Set.univ (m := aR) (r := rR b 0) (w := rVal (X c) b) (Mk := Finset.univ) (f := g)
    (S := (aRm b 0).view.set) (aR_acc b 0).ge) $$ Ha
  iintro Ha
  iapply Hk
  isplitl [Hs]
  · iapply (Entails.of_eq (pointsTo_congr (sB_back X c b f))) $$ Hs
  · iapply (Entails.of_eq (pointsTo_congr (aR_back X c b g))) $$ Ha

/-- The sums of a batch, from its four chunks in flight. -/
theorem stats_step (Q : PUnit → sProp 𝕄) (K : PR F) (b : Fin 2) (O : CellTallies nD τ sig Unit) (hO : Above 0 O) :
    iprop(levAts L lv ∗ ow c O ∗ (inFl X c (ch b 0) ∗ inFl X c (ch b 1) ∗ inFl X c (ch b 2) ∗ inFl X c (ch b 3))
        ∗ (∃ f, sPts c b fullShare f) ∗ (∃ f, aPts c b 0 f))
      ⊢ iprop((ow c O
          ∗ (xvPts c (ch b 0) (X c) ∗ xvPts c (ch b 1) (X c) ∗ xvPts c (ch b 2) (X c) ∗ xvPts c (ch b 3) (X c))
          ∗ (xhPts c (ch b 0) (X c) ∗ xhPts c (ch b 1) (X c) ∗ xhPts c (ch b 2) (X c) ∗ xhPts c (ch b 3) (X c))
          ∗ (semVal ((c : Thread nD τ), .dma (inSem (ch b 0))) 0 ∗ semVal ((c : Thread nD τ), .dma (inSem (ch b 1))) 0
            ∗ semVal ((c : Thread nD τ), .dma (inSem (ch b 2))) 0 ∗ semVal ((c : Thread nD τ), .dma (inSem (ch b 3))) 0)
          ∗ sPts c b fullShare (SB (X c)) ∗ aPts c b 0 (AR X c) -∗ WP c K Q)
        -∗ WP c (stats b K) Q) := by
  iintro ⟨#HL, HO, ⟨H0, H1, H2, H3⟩, Hs, Ha⟩ Hk
  unfold stats
  iapply (inWait_step X c Q _ (ch b 0) O hO) $$ [HO H0]
  · isplitr; · iexact HL
    isplitl [HO] <;> iassumption
  iintro ⟨HO, Hv0, Hh0, Hm0⟩
  iapply (inWait_step X c Q _ (ch b 1) O hO) $$ [HO H1]
  · isplitr; · iexact HL
    isplitl [HO] <;> iassumption
  iintro ⟨HO, Hv1, Hh1, Hm1⟩
  iapply (inWait_step X c Q _ (ch b 2) O hO) $$ [HO H2]
  · isplitr; · iexact HL
    isplitl [HO] <;> iassumption
  iintro ⟨HO, Hv2, Hh2, Hm2⟩
  iapply (inWait_step X c Q _ (ch b 3) O hO) $$ [HO H3]
  · isplitr; · iexact HL
    isplitl [HO] <;> iassumption
  iintro ⟨HO, Hv3, Hh3, Hm3⟩
  iapply (putStats_step X c Q K b) $$ [Hs Ha]
  · isplitl [Hs] <;> iassumption
  iintro ⟨Hs, Ha⟩
  iapply Hk
  isplitl [HO]; · iexact HO
  isplitl [Hv0 Hv1 Hv2 Hv3]
  · isplitl [Hv0]; · iexact Hv0
    isplitl [Hv1]; · iexact Hv1
    isplitl [Hv2] <;> iassumption
  isplitl [Hh0 Hh1 Hh2 Hh3]
  · isplitl [Hh0]; · iexact Hh0
    isplitl [Hh1]; · iexact Hh1
    isplitl [Hh2] <;> iassumption
  isplitl [Hm0 Hm1 Hm2 Hm3]
  · isplitl [Hm0]; · iexact Hm0
    isplitl [Hm1]; · iexact Hm1
    isplitl [Hm2] <;> iassumption
  isplitl [Hs] <;> iassumption

/-! ## The gathered sums -/

/-- The sixteen receive slots of a batch, as one piece. -/
abbrev aAll (b : Fin 2) (f : (cc0_scratch3 : Ref sig .tc).ty.Contents (Elt F)) : sProp 𝕄 :=
  aR.view.loc (c : Thread nD τ) ↦[(rA b).set]{fullShare} f

theorem gather_step (Q : PUnit → sProp 𝕄) (K : Vec F S1x16x2x64 .f32 → PR F) (b : Fin 2) :
    aAll c b (AR X c) ⊢ iprop((aAll c b (AR X c) -∗ WP c (K (gV X c b)) Q)
        -∗ WP c (gather b K) Q) := by
  unfold gather
  exact wp_load 𝒱₀ (c : Thread nD τ) none Set.univ (m := aR) (r := (rA b).toLoadRect) (f := AR X c) (S := (rA b).set)
    (((View.set_slice (View.whole cc0_scratch3) (rA b)).symm.trans (View.set_slice_whole _ _)).le)

/-! ## The output chunks -/

/-- The weights as the kernel's buffer holds them. -/
abbrev wPts (f : WC F) : sProp 𝕄 := wV.view.loc (c : Thread nD τ) ↦{fullShare} f

/-- The copy out of chunk `q`, in flight. -/
def outFl (q : Fin 8) : sProp 𝕄 :=
  iprop(∃ g fd, ⌜(oV.access (rS (par q))).read (Elt F) g = oVal X w c q⌝
    ∗ Transfers.Flight countersEmb (c : Thread nD τ) (.dma (outSem (par q))) () NO
      iprop((ohPts c q ((oHm q).view.write (Elt F) fd ((oVm (par q)).view.read (Elt F) g) Finset.univ)) ∗ ovPts c (par q) g))

theorem outStart_step (Q : PUnit → sProp 𝕄) (K : PR F) (q : Fin 8) :
    iprop(xvPts c q (X c) ∗ wPts c w ∗ (∃ f, ovPts c (par q) f) ∗ (∃ f, ohPts c q f) ∗ semVal ((c : Thread nD τ), .dma (outSem (par q))) 0)
      ⊢ iprop((xvPts c q (X c) ∗ wPts c w ∗ outFl X w c q -∗ WP c K Q) -∗ WP c (outStart q (gV X c (bat q)) K) Q) := by
  iintro ⟨Hx, Hw, ⟨%f, Ho⟩, ⟨%fd, Hd⟩, Hm⟩ Hk
  unfold outStart
  iapply (wp_load 𝒱₀ (c : Thread nD τ) none Set.univ (m := xV) (r := (rX q).toLoadRect) (f := X c) (S := (xVm q).view.set) (xV_set q).ge) $$ Hx
  iintro Hx
  iapply (wp_load 𝒱₀ (c : Thread nD τ) none Set.univ (m := wV) (r := rW.toLoadRect) (f := w) (S := Finset.univ) (Finset.subset_univ _)) $$ Hw
  iintro Hw
  iapply (wp_load 𝒱₀ (c : Thread nD τ) none Set.univ (m := oV) (r := (rS (par q)).toLoadRect) (f := f) (S := (oVm (par q)).view.set) (oV_set (par q)).ge) $$ Ho
  iintro Ho
  iapply (wp_store 𝒱₀ (c : Thread nD τ) none Set.univ (m := oV) (r := rS (par q)) (w := oVal X w c q) (Mk := Finset.univ) (f := f)
    (S := (oVm (par q)).view.set) (oV_acc (par q)).ge) $$ Ho
  iintro Ho
  iapply (Transfers.wp_dmaLocal countersEmb 𝒱₀ (c : Thread nD τ) none (src := oVm (par q)) (via := .same) (dst := oHm q) (sm := .dma (outSem (par q)))
      (q := fullShare) (fd := fd) () NO rfl NO_pos (Finset.Subset.refl _)) $$ [Ho Hd Hm]
  · isplitl [Ho]; · iexact Ho
    isplitl [Hd] <;> iassumption
  iintro Hf
  iapply Hk
  isplitl [Hx]; · iexact Hx
  isplitl [Hw]; · iexact Hw
  unfold outFl
  iexists ((oV.access (rS (par q))).write (Elt F) f (oVal X w c q) Finset.univ); iexists fd
  isplitr
  · ipureintro; exact View.read_write_univ _ _
  iexact Hf

theorem outWait_step (Q : PUnit → sProp 𝕄) (K : PR F) (q : Fin 8) :
    iprop(outFl X w c q ∗ ow c 0)
      ⊢ iprop((ohPts c q (OUT X w c) ∗ (∃ f, ovPts c (par q) f) ∗ semVal ((c : Thread nD τ), .dma (outSem (par q))) 0 ∗ ow c 0 -∗ WP c K Q)
        -∗ WP c (outWait q K) Q) := by
  unfold outFl ow
  iintro ⟨⟨%g, %fd, %hg, Hf⟩, ⟨%W, HO⟩⟩ Hk
  unfold outWait
  iapply (Transfers.wp_waitLocalO countersEmb 𝒱₀ (c : Thread nD τ) none () (rfl : (oHm q).view.dmaCredit = NO) (O := 0) (W := W)) $$ [Hf HO]
  · isplitl [Hf]; · iexact Hf
    isplitl [HO]; · iexact HO
    rw [MayWait_zero]; iempintro
  iintro ⟨⟨Hd, Ho⟩, Hm, HO⟩
  iapply Hk
  isplitl [Hd]
  · iapply (Entails.of_eq (pointsTo_congr (agree_write (out_read X w c q g hg)))) $$ Hd
  isplitl [Ho]; · iexists g; iexact Ho
  isplitl [Hm]; · iexact Hm
  iexists _; iexact HO

end Cert.KernelIdeal.Body

end
-- ==== Proof.Pieces.lean ====
/- The kernel's buffers cut into the pieces its steps work on, and joined back: the eight chunks of the input
   and of the output, the two output slots, the two rows of the send buffer and the thirty-two receive slots. -/
module

public import proofs.«01_k».proof.Proof.Steps

@[expose] public section

set_option maxRecDepth 16384

noncomputable section

namespace Cert.KernelIdeal.Body

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig Unit (Elt F) ℕ UU ℕ

/-! ## The rectangles' elements -/

theorem mem_rX (q : Fin 8) (i : S2x16384x64.Idx) : i ∈ (rX q).set ↔ (i 0).val = q.val / 4 ∧ (i 1).val / 4096 = q.val % 4 := by
  rw [Rect.mem_set_unit]
  constructor
  · intro h
    have h0 : q.val / 4 ≤ (i 0).val ∧ (i 0).val < q.val / 4 + 1 := h 0
    have h1 : 4096 * (q.val % 4) ≤ (i 1).val ∧ (i 1).val < 4096 * (q.val % 4) + 4096 := h 1
    omega
  · rintro ⟨h0, h1⟩ a
    match a with
    | ⟨0, _⟩ => show q.val / 4 ≤ (i 0).val ∧ (i 0).val < q.val / 4 + 1; omega
    | ⟨1, _⟩ => show 4096 * (q.val % 4) ≤ (i 1).val ∧ (i 1).val < 4096 * (q.val % 4) + 4096; omega
    | ⟨2, _⟩ => exact ⟨Nat.zero_le _, (Nat.zero_add 64).symm ▸ (i 2).isLt⟩

theorem mem_rO (q : Fin 8) (i : S2x16384x128.Idx) : i ∈ (rO q).set ↔ (i 0).val = q.val / 4 ∧ (i 1).val / 4096 = q.val % 4 := by
  rw [Rect.mem_set_unit]
  constructor
  · intro h
    have h0 : q.val / 4 ≤ (i 0).val ∧ (i 0).val < q.val / 4 + 1 := h 0
    have h1 : 4096 * (q.val % 4) ≤ (i 1).val ∧ (i 1).val < 4096 * (q.val % 4) + 4096 := h 1
    omega
  · rintro ⟨h0, h1⟩ a
    match a with
    | ⟨0, _⟩ => show q.val / 4 ≤ (i 0).val ∧ (i 0).val < q.val / 4 + 1; omega
    | ⟨1, _⟩ => show 4096 * (q.val % 4) ≤ (i 1).val ∧ (i 1).val < 4096 * (q.val % 4) + 4096; omega
    | ⟨2, _⟩ => exact ⟨Nat.zero_le _, (Nat.zero_add 128).symm ▸ (i 2).isLt⟩

theorem mem_rS (s : Fin 2) (i : S2x4096x128.Idx) : i ∈ (rS s).set ↔ (i 0).val = s.val := by
  rw [Rect.mem_set_unit]
  constructor
  · intro h
    have h0 : s.val ≤ (i 0).val ∧ (i 0).val < s.val + 1 := h 0
    omega
  · rintro h0 a
    match a with
    | ⟨0, _⟩ => show s.val ≤ (i 0).val ∧ (i 0).val < s.val + 1; omega
    | ⟨1, _⟩ => exact ⟨Nat.zero_le _, (Nat.zero_add 4096).symm ▸ (i 1).isLt⟩
    | ⟨2, _⟩ => exact ⟨Nat.zero_le _, (Nat.zero_add 128).symm ▸ (i 2).isLt⟩

theorem mem_rB (s : Fin 2) (i : S2x2x64.Idx) : i ∈ (rB s).set ↔ (i 0).val = s.val := by
  rw [Rect.mem_set_unit]
  constructor
  · intro h
    have h0 : s.val ≤ (i 0).val ∧ (i 0).val < s.val + 1 := h 0
    omega
  · rintro h0 a
    match a with
    | ⟨0, _⟩ => show s.val ≤ (i 0).val ∧ (i 0).val < s.val + 1; omega
    | ⟨1, _⟩ => exact ⟨Nat.zero_le _, (Nat.zero_add 2).symm ▸ (i 1).isLt⟩
    | ⟨2, _⟩ => exact ⟨Nat.zero_le _, (Nat.zero_add 64).symm ▸ (i 2).isLt⟩

theorem mem_rA (s : Fin 2) (i : S2x16x2x64.Idx) : i ∈ (rA s).set ↔ (i 0).val = s.val := by
  rw [Rect.mem_set_unit]
  constructor
  · intro h
    have h0 : s.val ≤ (i 0).val ∧ (i 0).val < s.val + 1 := h 0
    omega
  · rintro h0 a
    match a with
    | ⟨0, _⟩ => show s.val ≤ (i 0).val ∧ (i 0).val < s.val + 1; omega
    | ⟨1, _⟩ => exact ⟨Nat.zero_le _, (Nat.zero_add 16).symm ▸ (i 1).isLt⟩
    | ⟨2, _⟩ => exact ⟨Nat.zero_le _, (Nat.zero_add 2).symm ▸ (i 2).isLt⟩
    | ⟨3, _⟩ => exact ⟨Nat.zero_le _, (Nat.zero_add 64).symm ▸ (i 3).isLt⟩

theorem mem_rR (s : Fin 2) (d : Fin 16) (i : S2x16x2x64.Idx) : i ∈ (rR s d).set ↔ (i 0).val = s.val ∧ (i 1).val = d.val := by
  rw [Rect.mem_set_unit]
  constructor
  · intro h
    have h0 : s.val ≤ (i 0).val ∧ (i 0).val < s.val + 1 := h 0
    have h1 : d.val ≤ (i 1).val ∧ (i 1).val < d.val + 1 := h 1
    omega
  · rintro ⟨h0, h1⟩ a
    match a with
    | ⟨0, _⟩ => show s.val ≤ (i 0).val ∧ (i 0).val < s.val + 1; omega
    | ⟨1, _⟩ => show d.val ≤ (i 1).val ∧ (i 1).val < d.val + 1; omega
    | ⟨2, _⟩ => exact ⟨Nat.zero_le _, (Nat.zero_add 2).symm ▸ (i 2).isLt⟩
    | ⟨3, _⟩ => exact ⟨Nat.zero_le _, (Nat.zero_add 64).symm ▸ (i 3).isLt⟩

/-! ## The pieces' elements -/

theorem xVm_set (q : Fin 8) : (xVm q).view.set = (rX q).set := (View.set_reshape _ _).trans (View.set_slice_whole _ _)
theorem xHm_set (q : Fin 8) : (xHm q).view.set = (rX q).set := (View.set_reshape _ _).trans (View.set_slice_whole _ _)
theorem oHm_set (q : Fin 8) : (oHm q).view.set = (rO q).set := (View.set_reshape _ _).trans (View.set_slice_whole _ _)
theorem oVm_set (s : Fin 2) : (oVm s).view.set = (rS s).set := (View.set_reshape _ _).trans (View.set_slice_whole _ _)
theorem sBm_set (b : Fin 2) : (sBm b).view.set = (rB b).set := (View.set_reshape _ _).trans (View.set_slice_whole _ _)
theorem aRm_set (b : Fin 2) (d : Fin 16) : (aRm b d).view.set = (rR b d).set := (View.set_reshape _ _).trans (View.set_slice_whole _ _)

theorem mem_oVm (i : S2x4096x128.Idx) (s : Fin 2) (h : (i 0).val = s.val) : i ∈ ((oVm s).view.set : Finset S2x4096x128.Idx) := by
  rw [oVm_set]; exact (mem_rS s i).mpr h
theorem mem_sBm (i : S2x2x64.Idx) (s : Fin 2) (h : (i 0).val = s.val) : i ∈ ((sBm s).view.set : Finset S2x2x64.Idx) := by
  rw [sBm_set]; exact (mem_rB s i).mpr h
theorem mem_aRm (i : S2x16x2x64.Idx) (b : Fin 2) (d : Fin 16) (h : (i 0).val = b.val) (h' : (i 1).val = d.val) :
    i ∈ ((aRm b d).view.set : Finset S2x16x2x64.Idx) := by
  rw [aRm_set]; exact (mem_rR b d i).mpr ⟨h, h'⟩

/-- A disjoint family that covers a buffer: the buffer whole is its members. -/
theorem cover {ℓ : Loc nD τ sig} {T : Type} [Fintype T] (K : T → Finset (Idx ℓ)) (f : Buf (Elt F) ℓ) (S : Finset (Idx ℓ))
    (hd : ∀ t t' i, i ∈ K t → i ∈ K t' → t = t') (hc : ∀ i, i ∈ S ↔ ∃ t, i ∈ K t) :
    (ℓ ↦[S]{fullShare} f : sProp 𝕄) = bigSep Finset.univ fun t => ℓ ↦[K t]{fullShare} f := by
  classical
  rw [← pointsTo_biUnion Finset.univ K fun t _ t' _ h => Finset.disjoint_left.mpr fun i hi hi' => h (hd t t' i hi hi')]
  congr 1
  ext i
  rw [hc, Finset.mem_biUnion]
  exact ⟨fun ⟨t, h⟩ => ⟨t, Finset.mem_univ _, h⟩, fun ⟨t, _, h⟩ => ⟨t, h⟩⟩

variable (c : Dev nD)

theorem chunk_eq {q q' : Fin 8} {a b : ℕ} (h : a = q.val / 4 ∧ b / 4096 = q.val % 4) (h' : a = q'.val / 4 ∧ b / 4096 = q'.val % 4) : q = q' := by
  apply Fin.ext; omega
theorem chunk_at {a b : ℕ} (ha : a < 2) (hb : b < 16384) : ∃ q : Fin 8, a = q.val / 4 ∧ b / 4096 = q.val % 4 :=
  ⟨⟨4 * a + b / 4096, by omega⟩, by show a = (4 * a + b / 4096) / 4; omega, by show _ = (4 * a + b / 4096) % 4; omega⟩

theorem xh_cut (f : XC F) : ((c : Thread nD τ).loc main_v1 ↦{fullShare} f : sProp 𝕄) = bigSep Finset.univ fun q => xhPts c q f :=
  cover (ℓ := (c : Thread nD τ).loc main_v1) (fun q => (xHm q).view.set) f Finset.univ
    (fun q q' i h h' => by
      rw [xHm_set] at h h'; exact chunk_eq ((mem_rX q i).mp h) ((mem_rX q' i).mp h'))
    (fun i => ⟨fun _ => by
      obtain ⟨q, hq⟩ := chunk_at (a := ((i : S2x16384x64.Idx) 0).val) (b := ((i : S2x16384x64.Idx) 1).val) ((i : S2x16384x64.Idx) 0).isLt ((i : S2x16384x64.Idx) 1).isLt
      exact ⟨q, by rw [xHm_set]; exact (mem_rX q i).mpr hq⟩, fun _ => Finset.mem_univ _⟩)

theorem xv_cut (f : XC F) : ((c : Thread nD τ).loc cc0_scratch0 ↦{fullShare} f : sProp 𝕄) = bigSep Finset.univ fun q => xvPts c q f :=
  cover (ℓ := (c : Thread nD τ).loc cc0_scratch0) (fun q => (xVm q).view.set) f Finset.univ
    (fun q q' i h h' => by
      rw [xVm_set] at h h'; exact chunk_eq ((mem_rX q i).mp h) ((mem_rX q' i).mp h'))
    (fun i => ⟨fun _ => by
      obtain ⟨q, hq⟩ := chunk_at (a := ((i : S2x16384x64.Idx) 0).val) (b := ((i : S2x16384x64.Idx) 1).val) ((i : S2x16384x64.Idx) 0).isLt ((i : S2x16384x64.Idx) 1).isLt
      exact ⟨q, by rw [xVm_set]; exact (mem_rX q i).mpr hq⟩, fun _ => Finset.mem_univ _⟩)

theorem oh_cut (f : (main_v2 : Ref sig .tc).ty.Contents (Elt F)) :
    ((c : Thread nD τ).loc main_v2 ↦{fullShare} f : sProp 𝕄) = bigSep Finset.univ fun q => ohPts c q f :=
  cover (ℓ := (c : Thread nD τ).loc main_v2) (fun q => (oHm q).view.set) f Finset.univ
    (fun q q' i h h' => by
      rw [oHm_set] at h h'; exact chunk_eq ((mem_rO q i).mp h) ((mem_rO q' i).mp h'))
    (fun i => ⟨fun _ => by
      obtain ⟨q, hq⟩ := chunk_at (a := ((i : S2x16384x128.Idx) 0).val) (b := ((i : S2x16384x128.Idx) 1).val) ((i : S2x16384x128.Idx) 0).isLt ((i : S2x16384x128.Idx) 1).isLt
      exact ⟨q, by rw [oHm_set]; exact (mem_rO q i).mpr hq⟩, fun _ => Finset.mem_univ _⟩)

theorem ov_cut (f : (cc0_scratch1 : Ref sig .tc).ty.Contents (Elt F)) :
    ((c : Thread nD τ).loc cc0_scratch1 ↦{fullShare} f : sProp 𝕄) = bigSep Finset.univ fun s => ovPts c s f :=
  cover (ℓ := (c : Thread nD τ).loc cc0_scratch1) (fun s => (oVm s).view.set) f Finset.univ
    (fun s s' i h h' => by
      rw [oVm_set] at h h'; exact Fin.ext (((mem_rS s i).mp h).symm.trans ((mem_rS s' i).mp h')))
    (fun i => ⟨fun _ => ⟨(show S2x4096x128.Idx from i) 0, mem_oVm i _ rfl⟩, fun _ => Finset.mem_univ _⟩)

theorem sb_cut (f : (cc0_scratch2 : Ref sig .tc).ty.Contents (Elt F)) :
    ((c : Thread nD τ).loc cc0_scratch2 ↦{fullShare} f : sProp 𝕄) = bigSep Finset.univ fun b => sPts c b fullShare f :=
  cover (ℓ := (c : Thread nD τ).loc cc0_scratch2) (fun b => (sBm b).view.set) f Finset.univ
    (fun s s' i h h' => by
      rw [sBm_set] at h h'; exact Fin.ext (((mem_rB s i).mp h).symm.trans ((mem_rB s' i).mp h')))
    (fun i => ⟨fun _ => ⟨(show S2x2x64.Idx from i) 0, mem_sBm i _ rfl⟩, fun _ => Finset.mem_univ _⟩)

theorem aAll_cut (b : Fin 2) (f : (cc0_scratch3 : Ref sig .tc).ty.Contents (Elt F)) :
    (aAll c b f : sProp 𝕄) = bigSep Finset.univ fun d => aPts c b d f :=
  cover (ℓ := (c : Thread nD τ).loc cc0_scratch3) (fun d => (aRm b d).view.set) f (rA b).set
    (fun s s' i h h' => by
      rw [aRm_set] at h h'; exact Fin.ext (((mem_rR b s i).mp h).2.symm.trans ((mem_rR b s' i).mp h').2))
    (fun i => ⟨fun h => ⟨(show S2x16x2x64.Idx from i) 1, mem_aRm i b _ ((mem_rA b i).mp h) rfl⟩,
      fun ⟨d, h⟩ => by rw [aRm_set] at h; exact (mem_rA b i).mpr ((mem_rR b d i).mp h).1⟩)

theorem ar_cut (f : (cc0_scratch3 : Ref sig .tc).ty.Contents (Elt F)) :
    ((c : Thread nD τ).loc cc0_scratch3 ↦{fullShare} f : sProp 𝕄) = bigSep Finset.univ fun b => aAll c b f :=
  cover (ℓ := (c : Thread nD τ).loc cc0_scratch3) (fun b => (rA b).set) f Finset.univ
    (fun s s' i h h' => Fin.ext (((mem_rA s i).mp h).symm.trans ((mem_rA s' i).mp h')))
    (fun i => ⟨fun _ => ⟨((i : S2x16x2x64.Idx) 0), (mem_rA _ i).mpr rfl⟩, fun _ => Finset.mem_univ _⟩)

end Cert.KernelIdeal.Body

end
-- ==== Proof.Family.lean ====
/- Families of resources over the distances, chunks and cells: re-indexed, split and updated. -/
module

public import proofs.«01_k».proof.Proof.Pieces

@[expose] public section

set_option maxRecDepth 16384

noncomputable section

namespace Cert.KernelIdeal.Body

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig Unit (Elt F) ℕ UU ℕ

/-! ## Indices -/

/-- Over the fifteen distances, as a list. -/
theorem over_js (P : Fin 15 → sProp 𝕄) : bigSep Finset.univ P = bigSepL js P :=
  bigSep_univ_eq_bigSepL js (by decide) (by decide) P

/-- Over the sixteen slots: the own one, then those of the distances. -/
theorem over_slots (P : Fin 16 → sProp 𝕄) : bigSep Finset.univ P = iprop(P 0 ∗ bigSep Finset.univ fun j : Fin 15 => P (far j)) := by
  rw [over_js, bigSep_univ_eq_bigSepL (0 :: js.map far) (by decide) (by decide) P, bigSepL_cons', bigSepL_map]

/-- Over the eight chunks, by batch. -/
theorem over_chunks (P : Fin 8 → sProp 𝕄) : bigSep Finset.univ P
    = iprop((P (ch 0 0) ∗ P (ch 0 1) ∗ P (ch 0 2) ∗ P (ch 0 3)) ∗ (P (ch 1 0) ∗ P (ch 1 1) ∗ P (ch 1 2) ∗ P (ch 1 3))) := by
  rw [bigSep_univ_eq_bigSepL ([ch 0 0, ch 0 1, ch 0 2, ch 0 3] ++ [ch 1 0, ch 1 1, ch 1 2, ch 1 3]) (by decide) (by decide) P, bigSepL_append]
  simp only [bigSepL_cons']
  have e : ∀ R : sProp 𝕄, (iprop(R ∗ bigSepL [] P)) = R := fun R => equiv_iff.mp Idealize.SL.BI.sep_emp
  rw [e, e]

/-- Over the eight chunks, one by one. -/
theorem over_eight (P : Fin 8 → sProp 𝕄) : bigSep Finset.univ P
    = iprop(P 0 ∗ P 1 ∗ P 2 ∗ P 3 ∗ P 4 ∗ P 5 ∗ P 6 ∗ P 7) := by
  rw [bigSep_univ_eq_bigSepL [0, 1, 2, 3, 4, 5, 6, 7] (by decide) (by decide) P]
  simp only [bigSepL_cons']
  have e : ∀ R : sProp 𝕄, (iprop(R ∗ bigSepL [] P)) = R := fun R => equiv_iff.mp Idealize.SL.BI.sep_emp
  rw [e]

theorem over_bool (P : Bool → sProp 𝕄) : bigSep Finset.univ P = iprop(P false ∗ P true) := by
  rw [bigSep_univ_eq_bigSepL [false, true] (by decide) (by decide) P]
  simp only [bigSepL_cons']
  have e : ∀ R : sProp 𝕄, (iprop(R ∗ bigSepL [] P)) = R := fun R => equiv_iff.mp Idealize.SL.BI.sep_emp
  rw [e]

theorem over_two (P : Fin 2 → sProp 𝕄) : bigSep Finset.univ P = iprop(P 0 ∗ P 1) := bigSep_fin_two P

/-- Over the send and receive cells: send of either batch, receive of either batch. -/
theorem over_x (P : Bool × Fin 2 × Fin 15 → sProp 𝕄) : bigSep Finset.univ P
    = iprop(((bigSep Finset.univ fun j => P (false, 0, j)) ∗ (bigSep Finset.univ fun j => P (false, 1, j)))
      ∗ ((bigSep Finset.univ fun j => P (true, 0, j)) ∗ (bigSep Finset.univ fun j => P (true, 1, j)))) := by
  rw [bigSep_univ_prod, over_bool, bigSep_univ_prod, bigSep_univ_prod, over_two, over_two]

/-- A family updated member by member. -/
theorem big_upd {I : Type} [Fintype I] [DecidableEq I] {Φ Ψ : I → sProp 𝕄} (R : sProp 𝕄) [BI.Persistent R]
    (h : ∀ i, iprop(R ∗ Φ i) ⊢ (|={Set.univ}=> Ψ i : sProp 𝕄)) :
    iprop(R ∗ bigSep Finset.univ Φ) ⊢ (|={Set.univ}=> bigSep Finset.univ Ψ : sProp 𝕄) := by
  rw [bigSep_univ_eq_bigSepL Finset.univ.toList (Finset.toList_toFinset _).symm (Finset.nodup_toList _) Φ,
    bigSep_univ_eq_bigSepL Finset.univ.toList (Finset.toList_toFinset _).symm (Finset.nodup_toList _) Ψ]
  generalize (Finset.univ : Finset I).toList = l
  induction l with
  | nil =>
    iintro ⟨-, -⟩; imodintro; iempintro
  | cons i l ih =>
    rw [bigSepL_cons', bigSepL_cons']
    iintro ⟨#HR, Hi, Hl⟩
    imod (h i) $$ [Hi] with Hi'
    · isplitr; · iexact HR
      iexact Hi
    imod ih $$ [Hl] with Hl'
    · isplitr; · iexact HR
      iexact Hl
    imodintro
    isplitl [Hi'] <;> iassumption

/-- A family of anythings, from one contents shared by its members. -/
theorem big_any {I B : Type} [Fintype I] {P : I → B → sProp 𝕄} (f : B) :
    (bigSep Finset.univ fun i => P i f) ⊢ (bigSep Finset.univ fun i => iprop(∃ g, P i g) : sProp 𝕄) :=
  bigSep_mono fun i _ => exists_intro (Φ := fun g => P i g) f

/-! ## The pieces of a buffer held at any contents -/

variable (X : Dev nD → XC F) (c : Dev nD)

theorem xv_any : iprop(∃ f, (c : Thread nD τ).loc cc0_scratch0 ↦{fullShare} f) ⊢ (bigSep Finset.univ fun q => iprop(∃ f, xvPts c q f) : sProp 𝕄) := by
  iintro ⟨%f, H⟩
  ihave H := (Entails.of_eq (xv_cut c f)) $$ H
  iapply (big_any (P := fun q g => xvPts c q g) f); iexact H
theorem oh_any : iprop(∃ f, (c : Thread nD τ).loc main_v2 ↦{fullShare} f) ⊢ (bigSep Finset.univ fun q => iprop(∃ f, ohPts c q f) : sProp 𝕄) := by
  iintro ⟨%f, H⟩
  ihave H := (Entails.of_eq (oh_cut c f)) $$ H
  iapply (big_any (P := fun q g => ohPts c q g) f); iexact H
theorem ov_any : iprop(∃ f, (c : Thread nD τ).loc cc0_scratch1 ↦{fullShare} f) ⊢ (iprop((∃ f, ovPts c 0 f) ∗ (∃ f, ovPts c 1 f)) : sProp 𝕄) := by
  iintro ⟨%f, H⟩
  ihave H := (Entails.of_eq ((ov_cut c f).trans (over_two _))) $$ H
  icases H with ⟨H0, H1⟩
  isplitl [H0]
  · iexists f; iexact H0
  · iexists f; iexact H1
theorem sb_any : iprop(∃ f, (c : Thread nD τ).loc cc0_scratch2 ↦{fullShare} f) ⊢ (iprop((∃ f, sPts c 0 fullShare f) ∗ (∃ f, sPts c 1 fullShare f)) : sProp 𝕄) := by
  iintro ⟨%f, H⟩
  ihave H := (Entails.of_eq ((sb_cut c f).trans (over_two _))) $$ H
  icases H with ⟨H0, H1⟩
  isplitl [H0]
  · iexists f; iexact H0
  · iexists f; iexact H1

/-- The two output slots, at whatever each holds, are the slot buffer at something. -/
theorem ov_back : iprop((∃ f, ovPts c 0 f) ∗ (∃ f, ovPts c 1 f)) ⊢ (iprop(∃ f, (c : Thread nD τ).loc cc0_scratch1 ↦{fullShare} f) : sProp 𝕄) := by
  iintro ⟨⟨%f, H0⟩, ⟨%g, H1⟩⟩
  iexists (fun i => if i ∈ (oVm 0).view.set then f i else g i)
  iapply (Entails.of_eq ((ov_cut c _).trans (over_two _)).symm)
  isplitl [H0]
  · iapply (Entails.of_eq (pointsTo_congr (fun i hi => (if_pos hi).symm))) $$ H0
  · iapply (Entails.of_eq (pointsTo_congr (fun i hi => (if_neg (fun h => by
      rw [oVm_set] at h hi
      have h0 := (mem_rS 0 i).mp h
      have h1 := (mem_rS 1 i).mp hi
      exact absurd (h0.symm.trans h1) (by decide))).symm))) $$ H1

/-- The receive buffer with the cells' openings: the own slots of either batch, and what the ready signals hand over. -/
theorem ar_open : iprop((∃ f, (c : Thread nD τ).loc cc0_scratch3 ↦{fullShare} f)
      ∗ (bigSep Finset.univ fun j : Fin 15 => reached ER (rcvC c 0 j) 0) ∗ (bigSep Finset.univ fun j : Fin 15 => reached ER (rcvC c 1 j) 0))
    ⊢ (iprop((∃ f, aPts c 0 0 f) ∗ (∃ f, aPts c 1 0 f) ∗ bigSep Finset.univ fun j : Fin 15 => ready c j) : sProp 𝕄) := by
  iintro ⟨⟨%f, H⟩, H0, H1⟩
  ihave H := (Entails.of_eq ((ar_cut c f).trans (over_two _))) $$ H
  icases H with ⟨Ha, Hb⟩
  ihave Ha := (Entails.of_eq ((aAll_cut c 0 f).trans (over_slots _))) $$ Ha
  ihave Hb := (Entails.of_eq ((aAll_cut c 1 f).trans (over_slots _))) $$ Hb
  icases Ha with ⟨Ha, Has⟩
  icases Hb with ⟨Hb, Hbs⟩
  isplitl [Ha]; · iexists f; iexact Ha
  isplitl [Hb]; · iexists f; iexact Hb
  ihave Has := (big_any (P := fun (j : Fin 15) g => aPts c 0 (far j) g) f) $$ Has
  ihave Hbs := (big_any (P := fun (j : Fin 15) g => aPts c 1 (far j) g) f) $$ Hbs
  unfold ready
  rw [bigSep_sep', bigSep_sep', bigSep_sep']
  isplitl [Has H0]
  · isplitl [Has] <;> iassumption
  · isplitl [Hbs] <;> iassumption

theorem ready_rev : (bigSep Finset.univ fun j : Fin 15 => (ready c j : sProp 𝕄)) = bigSep Finset.univ fun j : Fin 15 => (ready c j.rev : sProp 𝕄) :=
  bigSep_univ_equiv (Fin.revPerm : Fin 15 ≃ Fin 15) _

/-- The receive slots of a batch, all landed, as one piece. -/
theorem landed_all (b : Fin 2) : iprop(aPts c b 0 (AR X c) ∗ bigSep Finset.univ fun j : Fin 15 => rcvPay X c b j) ⊢ (aAll c b (AR X c) : sProp 𝕄) :=
  Entails.of_eq ((aAll_cut c b _).trans (over_slots _)).symm

theorem ar_back : iprop(aAll c 0 (AR X c) ∗ aAll c 1 (AR X c)) ⊢ (iprop(∃ f, (c : Thread nD τ).loc cc0_scratch3 ↦{fullShare} f) : sProp 𝕄) := by
  iintro H
  iexists (AR X c)
  iapply (Entails.of_eq ((ar_cut c (AR X c)).trans (over_two _)).symm) $$ H

/-- A row of the send buffer dealt to its fifteen sends, and what is left of it. -/
theorem s_deal (b : Fin 2) : (sPts c b fullShare (SB (X c)) : sProp 𝕄)
    ⊢ iprop(sPts c b (Transfers.shareDrop fullShare 15) (SB (X c)) ∗ bigSep Finset.univ fun j => sndPay X c b j) :=
  Transfers.pointsTo_toks_split fullShare 15
theorem s_back (b : Fin 2) : iprop(sPts c b (Transfers.shareDrop fullShare 15) (SB (X c)) ∗ bigSep Finset.univ fun j => sndPay X c b j)
    ⊢ (sPts c b fullShare (SB (X c)) : sProp 𝕄) :=
  Transfers.pointsTo_toks_join fullShare 15
theorem sb_back : iprop(sPts c 0 fullShare (SB (X c)) ∗ sPts c 1 fullShare (SB (X c))) ⊢ (iprop(∃ f, (c : Thread nD τ).loc cc0_scratch2 ↦{fullShare} f) : sProp 𝕄) := by
  iintro H
  iexists (SB (X c))
  iapply (Entails.of_eq ((sb_cut c (SB (X c))).trans (over_two _)).symm) $$ H

end Cert.KernelIdeal.Body

end
-- ==== Proof.Run.lean ====
/- The kernel's body run from its start to its end on one device. -/
module

public import proofs.«01_k».proof.Proof.Family

@[expose] public section

set_option maxRecDepth 16384

noncomputable section

namespace Cert.KernelIdeal.Body

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig Unit (Elt F) ℕ UU ℕ

variable (X : Dev nD → XC F) (w : WC F) (κ : GSem nD τ sig → ℕ) (c : Dev nD)

/-! ## Families as the steps take them -/

theorem inStarts (Q : PUnit → sProp 𝕄) (K : PR F) : ∀ l : List (Fin 8),
    iprop(bigSepL l (fun q => iprop(xhPts c q (X c) ∗ (∃ f, xvPts c q f) ∗ semVal ((c : Thread nD τ), .dma (inSem q)) 0)))
      ⊢ iprop((bigSepL l (fun q => inFl X c q) -∗ WP c K Q) -∗ WP c (l.foldr (fun q K => inStart q K) K) Q)
  | [] => by
    iintro - Hk
    iapply Hk; iempintro
  | q :: l => by
    have ih := inStarts Q K l
    rw [bigSepL_cons', bigSepL_cons']
    iintro ⟨H, Hl⟩ Hk
    rw [List.foldr_cons]
    iapply (inStart_step X c Q _ q) $$ H
    iintro Hf
    iapply ih $$ Hl
    iintro Hl
    iapply Hk
    isplitl [Hf] <;> iassumption

abbrev qs : List (Fin 8) := [0, 1, 2, 3, 4, 5, 6, 7]
theorem over_qs (P : Fin 8 → sProp 𝕄) : bigSep Finset.univ P = bigSepL qs P :=
  bigSep_univ_eq_bigSepL qs (by decide) (by decide) P

/-- What the fifteen sends of batch `b` need. -/
theorem sendPres (b : Fin 2) :
    iprop((bigSep Finset.univ fun j => sndPay X c b j)
        ∗ (bigSep Finset.univ fun j : Fin 15 => iprop((∃ f, aPts (peer c (far j)) b (far j) f) ∗ reached ER (rcvC (peer c (far j)) b j) 0))
        ∗ (bigSep Finset.univ fun j : Fin 15 => dutyTok ER (sndC c b j) 0 0) ∗ (bigSep Finset.univ fun j : Fin 15 => reached ER (sndC c b j) 0)
        ∗ (bigSep Finset.univ fun j : Fin 15 => dutyTok ER (rcvC (peer c (far j)) b j) 0 0))
      ⊢ (bigSepL js (fun j => sendPre X c b j) : sProp 𝕄) := by
  rw [← over_js]
  unfold sendPre
  rw [bigSep_sep', bigSep_sep', bigSep_sep', bigSep_sep', bigSep_sep', bigSep_sep']

/-- What the fifteen pairs of waits of batch `b` need. -/
theorem waitPres (b : Fin 2) :
    iprop((bigSepL js fun j : Fin 15 => cred (tallyAt (sndC c b j) () N)) ∗ (bigSep Finset.univ fun j : Fin 15 => cred (tallyAt (rcvC c b j) () N))
        ∗ (bigSep Finset.univ fun j : Fin 15 => atPos ER (sndC c b j) 0 ∅ 0) ∗ (bigSep Finset.univ fun j : Fin 15 => atPos ER (rcvC c b j) 0 ∅ 0))
      ⊢ (bigSepL js (fun j => waitPre c b j) : sProp 𝕄) := by
  rw [← over_js, ← over_js]
  unfold waitPre
  rw [bigSep_sep', bigSep_sep', bigSep_sep']
/-- What they give. -/
theorem waitPosts (b : Fin 2) :
    (bigSepL js (fun j => waitPost X c b j) : sProp 𝕄)
      ⊢ iprop((bigSep Finset.univ fun j => sndPay X c b j) ∗ (bigSep Finset.univ fun j => rcvPay X c b j)
        ∗ (bigSep Finset.univ fun j : Fin 15 => atPos ER (sndC c b j) (0 + 1) ∅ 0)
        ∗ (bigSep Finset.univ fun j : Fin 15 => atPos ER (rcvC c b j) (0 + 1) ∅ 0)) := by
  rw [← over_js]
  unfold waitPost
  rw [bigSep_sep', bigSep_sep', bigSep_sep']

/-- What the fifteen signals need. -/
theorem signalPres :
    iprop((bigSep Finset.univ fun j : Fin 15 => dutyTok ER (barC (peer c (far j))) 0 j) ∗ (bigSep Finset.univ fun j : Fin 15 => ready c j))
      ⊢ (bigSepL js (fun j => iprop(dutyTok ER (barC (peer c (far j))) 0 j ∗ ready c j.rev)) : sProp 𝕄) := by
  rw [← over_js, bigSep_sep', ready_rev]

/-- What the barrier hands over, by batch. -/
theorem readies :
    (bigSep Finset.univ (fun j : Fin 15 => ready (peer c (far j)) j) : sProp 𝕄)
      ⊢ iprop((bigSep Finset.univ fun j : Fin 15 => iprop((∃ f, aPts (peer c (far j)) 0 (far j) f) ∗ reached ER (rcvC (peer c (far j)) 0 j) 0))
        ∗ (bigSep Finset.univ fun j : Fin 15 => iprop((∃ f, aPts (peer c (far j)) 1 (far j) f) ∗ reached ER (rcvC (peer c (far j)) 1 j) 0))) := by
  unfold ready
  rw [bigSep_sep']

/-- All send and receive cells closed, their counters at zero. -/
theorem closes :
    iprop(records X κ ∗ bigSep Finset.univ fun k : Bool × Fin 2 × Fin 15 => atPos ER ((c : Thread nD τ), xsem k) (0 + 1) ∅ 0)
      ⊢ (|={Set.univ}=> bigSep Finset.univ fun k : Bool × Fin 2 × Fin 15 => semVal ((c : Thread nD τ), xsem k) 0 : sProp 𝕄) :=
  big_upd (records X κ) fun k => by
    iintro ⟨#HR, Ha⟩
    iapply (close X (κ ((c : Thread nD τ), xsem k)) ((c : Thread nD τ), xsem k))
    isplitr
    · iapply (records_inv X κ (Finset.mem_union_right _ (Finset.mem_map_of_mem scEmb (Finset.mem_univ (c, k))))); iexact HR
    iexact Ha

/-! ## The whole body -/

/-- The duties device `c` pays: a signal to each peer, its own sends' returns, its sends' landings. -/
def payToks : sProp 𝕄 :=
  iprop((bigSep Finset.univ fun j : Fin 15 => dutyTok ER (barC (peer c (far j))) 0 j)
    ∗ ((bigSep Finset.univ fun j : Fin 15 => dutyTok ER (sndC c 0 j) 0 0) ∗ (bigSep Finset.univ fun j : Fin 15 => dutyTok ER (sndC c 1 j) 0 0))
    ∗ ((bigSep Finset.univ fun j : Fin 15 => dutyTok ER (rcvC (peer c (far j)) 0 j) 0 0)
      ∗ (bigSep Finset.univ fun j : Fin 15 => dutyTok ER (rcvC (peer c (far j)) 1 j) 0 0)))

/-- The landings device `c` waits for. -/
def landCreds : sProp 𝕄 :=
  iprop((bigSep Finset.univ fun j : Fin 15 => cred (tallyAt (rcvC c 0 j) () N)) ∗ (bigSep Finset.univ fun j : Fin 15 => cred (tallyAt (rcvC c 1 j) () N)))

/-- The protocol's part of the start. -/
def protoPre : sProp 𝕄 :=
  iprop(records X κ ∗ levAts L lv ∗ cred (tallyAt (barC c) () 15) ∗ landCreds c ∗ payToks c ∗ atPos ER (barC c) 0 ∅ 0
    ∗ (bigSep Finset.univ fun k : Bool × Fin 2 × Fin 15 => iprop(atPos ER ((c : Thread nD τ), xsem k) 0 ∅ 0 ∗ reached ER ((c : Thread nD τ), xsem k) 0)))

/-- The counters of the copies in and out. -/
def copySems : sProp 𝕄 :=
  iprop((bigSep Finset.univ fun q : Fin 8 => semVal ((c : Thread nD τ), .dma (inSem q)) 0)
    ∗ semVal ((c : Thread nD τ), .dma (outSem 0)) 0 ∗ semVal ((c : Thread nD τ), .dma (outSem 1)) 0)

/-- The scratch buffers. -/
def scratch : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))

/-- What the body gives back. -/
def runPost : sProp 𝕄 :=
  iprop(ow c 0 ∗ semVal (barC c) 0 ∗ (bigSep Finset.univ fun k : Bool × Fin 2 × Fin 15 => semVal ((c : Thread nD τ), xsem k) 0)
    ∗ copySems c ∗ scratch c ∗ ((c : Thread nD τ).loc main_v1 ↦{fullShare} (X c)) ∗ ((c : Thread nD τ).loc main_v2 ↦{fullShare} (OUT X w c)) ∗ wPts c w)

set_option maxHeartbeats 1600000 in
/-- The body, from its start to its end: the output is at the computed contents, every counter at zero, nothing owed. -/
theorem run (Q : PUnit → sProp 𝕄) :
    iprop((protoPre X κ c ∗ copySems c ∗ scratch c ∗ ow c (O₀ c) ∗ ((c : Thread nD τ).loc main_v1 ↦{fullShare} (X c))
        ∗ (∃ f, (c : Thread nD τ).loc main_v2 ↦{fullShare} f) ∗ wPts c w) ∗ (runPost X w c -∗ Q ⟨⟩))
      ⊢ WP c kern Q := by
  unfold protoPre landCreds payToks copySems scratch kern kernOf
  rw [bigSep_sep', over_x, over_x]
  simp only [WP, wp_deviceId]
  iintro ⟨⟨⟨#HR, #HL, HcB, ⟨HcV0, HcV1⟩, ⟨HtB, ⟨HtS0, HtS1⟩, ⟨HtR0, HtR1⟩⟩, HaB, ⟨⟨HaS0, HaS1⟩, ⟨HaR0, HaR1⟩⟩, ⟨⟨HrS0, HrS1⟩, ⟨#HrR0, #HrR1⟩⟩⟩,
    ⟨Hin, Hm0, Hm1⟩, ⟨Hxv, Hov, Hsb, Har⟩, HO, Hxh, Hoh, Hw⟩, Hk⟩
  ihave Har := (ar_open c) $$ [Har]
  · isplitl [Har]; · iexact Har
    isplitr; · iexact HrR0
    iexact HrR1
  icases Har with ⟨Ha0, Ha1, Hready⟩
  -- the ready signals
  unfold O₀
  iapply (signals X κ c Q _ (oweR c 0 js (oweR c 1 js 0)) js) $$ [HO HtB Hready]
  · isplitr; · iexact HR
    isplitl [HO]; · iexact HO
    iapply (signalPres c); isplitl [HtB] <;> iassumption
  iintro HO
  -- the copies in
  ihave Hxv := (xv_any c) $$ Hxv
  ihave Hxh := (Entails.of_eq (xh_cut c (X c))) $$ Hxh
  iapply (inStarts X c Q _ qs) $$ [Hxh Hxv Hin]
  · rw [← over_qs, bigSep_sep', bigSep_sep']
    isplitl [Hxh]; · iexact Hxh
    isplitl [Hxv] <;> iassumption
  iintro Hfl
  ihave Hfl := (Entails.of_eq ((over_qs (fun q => inFl X c q)).symm.trans (over_chunks _))) $$ Hfl
  icases Hfl with ⟨Hfl0, Hfl1⟩
  ihave Hsb := (sb_any c) $$ Hsb
  icases Hsb with ⟨Hs0, Hs1⟩
  -- the sums of batch 0
  iapply (stats_step X c Q _ 0 (oweR c 0 js (oweR c 1 js 0)) (above_oweR (by decide) (above_oweR (by decide) (above_zero 0) js) js)) $$ [HO Hfl0 Hs0 Ha0]
  · isplitr; · iexact HL
    isplitl [HO]; · iexact HO
    isplitl [Hfl0]; · iexact Hfl0
    isplitl [Hs0] <;> iassumption
  iintro ⟨HO, Hxv0, Hxh0, Hin0, Hs0, Ha0⟩
  -- the barrier
  iapply (barStep X κ c Q _ (oweR c 0 js (oweR c 1 js 0)) (above_oweR (by decide) (above_oweR (by decide) (above_zero 1) js) js)) $$ [HO HcB HaB]
  · isplitr; · iexact HR
    isplitr; · iexact HL
    isplitl [HO]; · iexact HO
    isplitl [HcB] <;> iassumption
  iintro ⟨HO, HaB, Hready⟩
  ihave Hready := (readies c) $$ Hready
  icases Hready with ⟨Hd0, Hd1⟩
  -- the sends of batch 0
  ihave Hs0 := (s_deal X c 0) $$ Hs0
  icases Hs0 with ⟨Hs0, Hp0⟩
  iapply (sends X κ c Q _ 0 (oweR c 1 js 0) js) $$ [HO Hp0 Hd0 HtS0 HrS0 HtR0]
  · isplitr; · iexact HR
    isplitl [HO]; · iexact HO
    iapply (sendPres X c 0)
    isplitl [Hp0]; · iexact Hp0
    isplitl [Hd0]; · iexact Hd0
    isplitl [HtS0]; · iexact HtS0
    isplitl [HrS0]; · iexact HrS0
    iexact HtR0
  iintro ⟨HO, HcS0⟩
  -- the sums of batch 1
  iapply (stats_step X c Q _ 1 (oweR c 1 js 0) (above_oweR (by decide) (above_zero 0) js)) $$ [HO Hfl1 Hs1 Ha1]
  · isplitr; · iexact HL
    isplitl [HO]; · iexact HO
    isplitl [Hfl1]; · iexact Hfl1
    isplitl [Hs1] <;> iassumption
  iintro ⟨HO, Hxv1, Hxh1, Hin1, Hs1, Ha1⟩
  -- the sends of batch 1
  ihave Hs1 := (s_deal X c 1) $$ Hs1
  icases Hs1 with ⟨Hs1, Hp1⟩
  iapply (sends X κ c Q _ 1 0 js) $$ [HO Hp1 Hd1 HtS1 HrS1 HtR1]
  · isplitr; · iexact HR
    isplitl [HO]; · iexact HO
    iapply (sendPres X c 1)
    isplitl [Hp1]; · iexact Hp1
    isplitl [Hd1]; · iexact Hd1
    isplitl [HtS1]; · iexact HtS1
    isplitl [HrS1]; · iexact HrS1
    iexact HtR1
  iintro ⟨HO, HcS1⟩
  -- the landings of batch 0
  iapply (waitss X κ c Q _ 0 js) $$ [HO HcS0 HcV0 HaS0 HaR0]
  · isplitr; · iexact HR
    isplitl [HO]; · iexact HO
    iapply (waitPres c 0)
    isplitl [HcS0]; · iexact HcS0
    isplitl [HcV0]; · iexact HcV0
    isplitl [HaS0]; · iexact HaS0
    iexact HaR0
  iintro ⟨HO, Hwp⟩
  ihave Hwp := (waitPosts X c 0) $$ Hwp
  icases Hwp with ⟨Hp0, Hl0, HaS0, HaR0⟩
  ihave Hs0 := (s_back X c 0) $$ [Hs0 Hp0]
  · isplitl [Hs0] <;> iassumption
  ihave Ha0 := (landed_all X c 0) $$ [Ha0 Hl0]
  · isplitl [Ha0] <;> iassumption
  iapply (gather_step X c Q _ 0) $$ Ha0
  iintro Ha0
  -- the chunks, one by one
  ihave Hxv := (Entails.of_eq (over_chunks (fun q => xvPts c q (X c))).symm) $$ [Hxv0 Hxv1]
  · isplitl [Hxv0] <;> iassumption
  ihave Hxv := (Entails.of_eq (over_eight (fun q => xvPts c q (X c)))) $$ Hxv
  icases Hxv with ⟨Hx0, Hx1, Hx2, Hx3, Hx4, Hx5, Hx6, Hx7⟩
  ihave Hoh := (oh_any c) $$ Hoh
  ihave Hoh := (Entails.of_eq (over_eight (fun q => iprop(∃ f, ohPts c q f)))) $$ Hoh
  icases Hoh with ⟨Ho0, Ho1, Ho2, Ho3, Ho4, Ho5, Ho6, Ho7⟩
  ihave Hov := (ov_any c) $$ Hov
  icases Hov with ⟨Hv0, Hv1⟩
  iapply (outStart_step X w c Q _ 0) $$ [Hx0 Hw Hv0 Ho0 Hm0]
  · isplitl [Hx0]; · iexact Hx0
    isplitl [Hw]; · iexact Hw
    isplitl [Hv0]; · iexact Hv0
    isplitl [Ho0] <;> iassumption
  iintro ⟨Hx0, Hw, Hf0⟩
  iapply (outStart_step X w c Q _ 1) $$ [Hx1 Hw Hv1 Ho1 Hm1]
  · isplitl [Hx1]; · iexact Hx1
    isplitl [Hw]; · iexact Hw
    isplitl [Hv1]; · iexact Hv1
    isplitl [Ho1] <;> iassumption
  iintro ⟨Hx1, Hw, Hf1⟩
  iapply (outWait_step X w c Q _ 0) $$ [Hf0 HO]
  · isplitl [Hf0] <;> iassumption
  iintro ⟨Ho0, Hv0, Hm0, HO⟩
  iapply (outStart_step X w c Q _ 2) $$ [Hx2 Hw Hv0 Ho2 Hm0]
  · isplitl [Hx2]; · iexact Hx2
    isplitl [Hw]; · iexact Hw
    isplitl [Hv0]; · iexact Hv0
    isplitl [Ho2] <;> iassumption
  iintro ⟨Hx2, Hw, Hf0⟩
  iapply (outWait_step X w c Q _ 1) $$ [Hf1 HO]
  · isplitl [Hf1] <;> iassumption
  iintro ⟨Ho1, Hv1, Hm1, HO⟩
  iapply (outStart_step X w c Q _ 3) $$ [Hx3 Hw Hv1 Ho3 Hm1]
  · isplitl [Hx3]; · iexact Hx3
    isplitl [Hw]; · iexact Hw
    isplitl [Hv1]; · iexact Hv1
    isplitl [Ho3] <;> iassumption
  iintro ⟨Hx3, Hw, Hf1⟩
  -- the landings of batch 1
  iapply (waitss X κ c Q _ 1 js) $$ [HO HcS1 HcV1 HaS1 HaR1]
  · isplitr; · iexact HR
    isplitl [HO]; · iexact HO
    iapply (waitPres c 1)
    isplitl [HcS1]; · iexact HcS1
    isplitl [HcV1]; · iexact HcV1
    isplitl [HaS1]; · iexact HaS1
    iexact HaR1
  iintro ⟨HO, Hwp⟩
  ihave Hwp := (waitPosts X c 1) $$ Hwp
  icases Hwp with ⟨Hp1, Hl1, HaS1, HaR1⟩
  ihave Hs1 := (s_back X c 1) $$ [Hs1 Hp1]
  · isplitl [Hs1] <;> iassumption
  ihave Ha1 := (landed_all X c 1) $$ [Ha1 Hl1]
  · isplitl [Ha1] <;> iassumption
  iapply (gather_step X c Q _ 1) $$ Ha1
  iintro Ha1
  iapply (outWait_step X w c Q _ 2) $$ [Hf0 HO]
  · isplitl [Hf0] <;> iassumption
  iintro ⟨Ho2, Hv0, Hm0, HO⟩
  iapply (outStart_step X w c Q _ 4) $$ [Hx4 Hw Hv0 Ho4 Hm0]
  · isplitl [Hx4]; · iexact Hx4
    isplitl [Hw]; · iexact Hw
    isplitl [Hv0]; · iexact Hv0
    isplitl [Ho4] <;> iassumption
  iintro ⟨Hx4, Hw, Hf0⟩
  iapply (outWait_step X w c Q _ 3) $$ [Hf1 HO]
  · isplitl [Hf1] <;> iassumption
  iintro ⟨Ho3, Hv1, Hm1, HO⟩
  iapply (outStart_step X w c Q _ 5) $$ [Hx5 Hw Hv1 Ho5 Hm1]
  · isplitl [Hx5]; · iexact Hx5
    isplitl [Hw]; · iexact Hw
    isplitl [Hv1]; · iexact Hv1
    isplitl [Ho5] <;> iassumption
  iintro ⟨Hx5, Hw, Hf1⟩
  iapply (outWait_step X w c Q _ 4) $$ [Hf0 HO]
  · isplitl [Hf0] <;> iassumption
  iintro ⟨Ho4, Hv0, Hm0, HO⟩
  iapply (outStart_step X w c Q _ 6) $$ [Hx6 Hw Hv0 Ho6 Hm0]
  · isplitl [Hx6]; · iexact Hx6
    isplitl [Hw]; · iexact Hw
    isplitl [Hv0]; · iexact Hv0
    isplitl [Ho6] <;> iassumption
  iintro ⟨Hx6, Hw, Hf0⟩
  iapply (outWait_step X w c Q _ 5) $$ [Hf1 HO]
  · isplitl [Hf1] <;> iassumption
  iintro ⟨Ho5, Hv1, Hm1, HO⟩
  iapply (outStart_step X w c Q _ 7) $$ [Hx7 Hw Hv1 Ho7 Hm1]
  · isplitl [Hx7]; · iexact Hx7
    isplitl [Hw]; · iexact Hw
    isplitl [Hv1]; · iexact Hv1
    isplitl [Ho7] <;> iassumption
  iintro ⟨Hx7, Hw, Hf1⟩
  iapply (outWait_step X w c Q _ 6) $$ [Hf0 HO]
  · isplitl [Hf0] <;> iassumption
  iintro ⟨Ho6, Hv0, Hm0, HO⟩
  iapply (outWait_step X w c Q _ 7) $$ [Hf1 HO]
  · isplitl [Hf1] <;> iassumption
  iintro ⟨Ho7, Hv1, Hm1, HO⟩
  -- before the return: every cell closed
  simp only [WP, wp_ret]
  imod (close X (κ (barC c)) (barC c)) $$ [HaB] with HbB
  · isplitr; · iapply (records_inv X κ (bar_mem c)); iexact HR
    iexact HaB
  imod (closes X κ c) $$ [HaS0 HaS1 HaR0 HaR1] with Hss
  · isplitr; · iexact HR
    rw [over_x]
    isplitl [HaS0 HaS1]
    · isplitl [HaS0]; · iexact HaS0
      iexact HaS1
    · isplitl [HaR0]; · iexact HaR0
      iexact HaR1
  imodintro
  iapply Hk
  unfold runPost copySems scratch
  isplitl [HO]; · iexact HO
  isplitl [HbB]; · iexact HbB
  isplitl [Hss]; · iexact Hss
  isplitl [Hin0 Hin1 Hm0 Hm1]
  · isplitl [Hin0 Hin1]
    · rw [over_chunks]; isplitl [Hin0] <;> iassumption
    · isplitl [Hm0]; · iexact Hm0
      iexact Hm1
  isplitl [Hx0 Hx1 Hx2 Hx3 Hx4 Hx5 Hx6 Hx7 Hv0 Hv1 Hs0 Hs1 Ha0 Ha1]
  · isplitl [Hx0 Hx1 Hx2 Hx3 Hx4 Hx5 Hx6 Hx7]
    · iexists (X c); rw [xv_cut, over_eight]
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6] <;> iassumption
    isplitl [Hv0 Hv1]
    · iapply (ov_back c); isplitl [Hv0]; · iexact Hv0
      iexact Hv1
    isplitl [Hs0 Hs1]
    · iapply (sb_back X c); isplitl [Hs0] <;> iassumption
    · iapply (ar_back X c); isplitl [Ha0] <;> iassumption
  isplitl [Hxh0 Hxh1]
  · rw [xh_cut, over_chunks]; isplitl [Hxh0] <;> iassumption
  isplitr [Hw]
  · rw [oh_cut, over_eight]
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6] <;> iassumption
  iexact Hw

end Cert.KernelIdeal.Body

end
-- ==== Proof.Deal.lean ====
/- What the launch deals: the tokens of the duties, each to the device that pays it, and the credit for what is
   owed to each cell. -/
module

public import proofs.«01_k».proof.Proof.Run
public import Idealize.ShloMosaic.Lib.Pipeline.Launch

@[expose] public section

set_option maxRecDepth 16384

noncomputable section

namespace Cert.KernelIdeal.Body

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig Unit (Elt F) ℕ UU ℕ

/-! ## The tokens -/

/-- The duties of one device's cells: the fifteen of its barrier cell, one of each send and receive cell. -/
abbrev Duty : Type := Fin 15 ⊕ (Bool × Fin 2 × Fin 15)
def dutySem : Duty → SemLoc sig := Sum.elim (fun _ => .reg barrier0) xsem
def dutyIx : Duty → Fin 15 := Sum.elim id fun _ => 0

theorem xsem_ne_bar (k : Bool × Fin 2 × Fin 15) : xsem k ≠ .reg barrier0 := by
  intro h
  have e := congrArg role h
  obtain ⟨s, b, j⟩ := k
  cases s
  · rw [show xsem (false, b, j) = .dma (sndSem b (far j)) from rfl, role_snd, role_bar] at e; cases e
  · rw [show xsem (true, b, j) = .dma (rcvSem b (far j)) from rfl, role_rcv, role_bar] at e; cases e

theorem duty_inj {k k' : Duty} (hs : dutySem k = dutySem k') (hi : dutyIx k = dutyIx k') : k = k' := by
  rcases k with j | x <;> rcases k' with j' | x'
  · exact congrArg Sum.inl hi
  · exact absurd hs.symm (xsem_ne_bar x')
  · exact absurd hs (xsem_ne_bar x)
  · exact congrArg Sum.inr (xsem_inj hs)

def allToks : Finset (GSem nD τ sig × ℕ × Fin 15) :=
  Finset.univ.map ⟨fun ck : Dev nD × Duty => (((ck.1 : Thread nD τ), dutySem ck.2), 0, dutyIx ck.2), fun _ _ h =>
    Prod.ext (congrArg (fun t : GSem nD τ sig × ℕ × Fin 15 => t.1.1.1) h)
      (duty_inj (congrArg (fun t : GSem nD τ sig × ℕ × Fin 15 => t.1.2) h) (congrArg (fun t : GSem nD τ sig × ℕ × Fin 15 => t.2.2) h))⟩

/-- The tokens of one device's cells. -/
def ownToks (c : Dev nD) : sProp 𝕄 :=
  iprop((bigSep Finset.univ fun j : Fin 15 => dutyTok ER (barC c) 0 j)
    ∗ ((bigSep Finset.univ fun j : Fin 15 => dutyTok ER (sndC c 0 j) 0 0) ∗ (bigSep Finset.univ fun j : Fin 15 => dutyTok ER (sndC c 1 j) 0 0))
    ∗ ((bigSep Finset.univ fun j : Fin 15 => dutyTok ER (rcvC c 0 j) 0 0) ∗ (bigSep Finset.univ fun j : Fin 15 => dutyTok ER (rcvC c 1 j) 0 0)))

theorem allToks_eq : bigSep allToks (fun x => (dutyTok ER x.1 x.2.1 x.2.2 : sProp 𝕄)) = bigSep Finset.univ fun c : Dev nD => ownToks c := by
  unfold allToks; rw [bigSep_map, bigSep_univ_prod]
  refine bigSep_congr fun c _ => ?_
  rw [bigSep_univ_sum]
  unfold ownToks
  rw [over_x]
  rfl

/-- Devices turned by the distance `j`. -/
def turn (j : Fin 15) : Dev nD ≃ Dev nD :=
  ⟨fun c => peer c (far j), fun c => back c (far j), fun c => back_peer c (far j), fun c => peer_back c (far j)⟩

/-- A family over devices and distances, each member named by the device it is turned to. -/
theorem turned (P : Dev nD → Fin 15 → sProp 𝕄) :
    (bigSep Finset.univ fun c : Dev nD => bigSep Finset.univ fun j : Fin 15 => P c j)
      = bigSep Finset.univ fun c : Dev nD => bigSep Finset.univ fun j : Fin 15 => P (peer c (far j)) j := by
  rw [bigSep_univ_comm, bigSep_univ_comm (fun (c : Dev nD) (j : Fin 15) => P (peer c (far j)) j)]
  exact bigSep_congr fun j _ => bigSep_univ_equiv (turn j) (fun c => P c j)

/-- Every token to the device that pays its duty. -/
theorem toks_around :
    (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep',
    turned (fun c j => dutyTok ER (barC c) 0 j), turned (fun c j => dutyTok ER (rcvC c 0 j) 0 0), turned (fun c j => dutyTok ER (rcvC c 1 j) 0 0)]

/-! ## The credit -/

theorem js_sum (f : Fin 15 → ℕ) : (js.map f).sum = ∑ j, f j := by
  rw [← List.sum_toFinset f (by decide : js.Nodup), show js.toFinset = Finset.univ from by decide]

theorem oweB_apply (c : Dev nD) (O : CellTallies nD τ sig Unit) (g : GSem nD τ sig) (u : Unit) : ∀ l : List (Fin 15),
    oweB c l O g u = O g u + (l.map fun j => tallyAt (barC (peer c (far j))) () 1 g u).sum
  | [] => rfl
  | j :: l => by
    show (oweB c l O + tallyAt (barC (peer c (far j))) () 1 : CellTallies nD τ sig Unit) g u = _
    rw [Pi.add_apply, Finsupp.add_apply, oweB_apply c O g u l, List.map_cons, List.sum_cons]; omega
theorem oweR_apply (c : Dev nD) (b : Fin 2) (O : CellTallies nD τ sig Unit) (g : GSem nD τ sig) (u : Unit) : ∀ l : List (Fin 15),
    oweR c b l O g u = O g u + (l.map fun j => tallyAt (rcvC (peer c (far j)) b j) () N g u).sum
  | [] => rfl
  | j :: l => by
    show (oweR c b l O + tallyAt (rcvC (peer c (far j)) b j) () N : CellTallies nD τ sig Unit) g u = _
    rw [Pi.add_apply, Finsupp.add_apply, oweR_apply c b O g u l, List.map_cons, List.sum_cons]; omega

theorem O₀_apply (c : Dev nD) (g : GSem nD τ sig) (u : Unit) : O₀ c g u
    = (∑ j, tallyAt (rcvC (peer c (far j)) 1 j) () N g u) + (∑ j, tallyAt (rcvC (peer c (far j)) 0 j) () N g u)
      + ∑ j, tallyAt (barC (peer c (far j))) () 1 g u := by
  unfold O₀
  rw [oweB_apply, oweR_apply, oweR_apply, js_sum, js_sum, js_sum]
  show 0 + _ + _ + _ = _
  rw [Nat.zero_add]

theorem bar_ne_rcv (c c' : Dev nD) (b : Fin 2) (j : Fin 15) : barC c ≠ rcvC c' b j := fun h => by
  have e := congrArg (fun g : GSem nD τ sig => role g.2) h
  dsimp only at e
  rw [role_bar, role_rcv] at e; cases e
theorem rcv_eq {c c' : Dev nD} {b b' : Fin 2} {j j' : Fin 15} (h : rcvC c b j = rcvC c' b' j') : c = c' ∧ b = b' ∧ j = j' := by
  have e := congrArg (fun g : GSem nD τ sig => role g.2) h
  dsimp only at e
  rw [role_rcv, role_rcv] at e; cases e
  exact ⟨congrArg (fun g : GSem nD τ sig => g.1.1) h, rfl, rfl⟩
theorem turn_eq {c d : Dev nD} {j : Fin 15} : c = peer d (far j) ↔ d = back c (far j) :=
  ⟨fun h => by rw [h]; exact (back_peer d (far j)).symm, fun h => by rw [h]; exact (peer_back c (far j)).symm⟩

theorem tally_other {g g' : GSem nD τ sig} (h : g' ≠ g) (k : ℕ) (u : Unit) : (tallyAt g () k : CellTallies nD τ sig Unit) g' u = 0 := by
  rw [tallyAt_ne_cell h]; rfl

theorem owed_bar (d c : Dev nD) : O₀ d (barC c) () = ∑ j : Fin 15, if d = back c (far j) then 1 else 0 := by
  rw [O₀_apply, Finset.sum_eq_zero fun j _ => tally_other (bar_ne_rcv c _ 1 j) N (), Finset.sum_eq_zero fun j _ => tally_other (bar_ne_rcv c _ 0 j) N (),
    Nat.zero_add, Nat.zero_add]
  refine Finset.sum_congr rfl fun j _ => ?_
  rw [tallyAt_apply]
  refine if_congr ⟨fun h => turn_eq.mp (congrArg (fun g : GSem nD τ sig => g.1.1) h.1), fun h => ⟨?_, rfl⟩⟩ rfl rfl
  rw [← turn_eq.mpr h]

theorem owed_of (d c : Dev nD) (b b' : Fin 2) (j : Fin 15) :
    (∑ i, (tallyAt (rcvC (peer d (far i)) b' i) () N : CellTallies nD τ sig Unit) (rcvC c b j) ()) = if b = b' ∧ d = back c (far j) then N else 0 := by
  rw [Finset.sum_eq_single j]
  · rw [tallyAt_apply]
    refine if_congr ⟨fun h => ⟨(rcv_eq h.1).2.1, turn_eq.mp (rcv_eq h.1).1⟩, fun h => ⟨?_, rfl⟩⟩ rfl rfl
    rw [← turn_eq.mpr h.2, h.1]
  · intro i _ hi
    exact tally_other (fun h => hi (rcv_eq h).2.2.symm) N ()
  · intro h; exact absurd (Finset.mem_univ j) h

theorem owed_rcv (d c : Dev nD) (b : Fin 2) (j : Fin 15) : O₀ d (rcvC c b j) () = if d = back c (far j) then N else 0 := by
  rw [O₀_apply, owed_of, owed_of, Finset.sum_eq_zero fun i _ => tally_other (bar_ne_rcv _ c b j).symm 1 (), Nat.add_zero]
  rcases (by revert b; decide : b = 0 ∨ b = 1) with rfl | rfl
  · rw [if_neg (fun h => absurd h.1 (by decide)), Nat.zero_add]; exact if_congr ⟨fun h => h.2, fun h => ⟨rfl, h⟩⟩ rfl rfl
  · rw [if_neg (fun h : (1 : Fin 2) = 0 ∧ _ => absurd h.1 (by decide)), Nat.add_zero]; exact if_congr ⟨fun h => h.2, fun h => ⟨rfl, h⟩⟩ rfl rfl

theorem launch_bar (c : Dev nD) :
    tallyOn (barC c) (launchCredit (Pipeline.owing O₀) 0 (barC c)) = (tallyAt (barC c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (back c (far j)) fun _ => 1).trans (if_pos (Finset.mem_univ _))]
  rfl
theorem launch_rcv (c : Dev nD) (b : Fin 2) (j : Fin 15) :
    tallyOn (rcvC c b j) (launchCredit (Pipeline.owing O₀) 0 (rcvC c b j)) = (tallyAt (rcvC c b j) () N : CellTallies nD τ sig Unit) := by
  unfold tallyAt; refine congrArg _ (Finsupp.ext fun u => ?_); cases u
  rw [Pipeline.launchCredit_owing, Finsupp.single_eq_same, Finset.sum_congr rfl fun d _ => owed_rcv d c b j]
  exact (Finset.sum_ite_eq' Finset.univ (back c (far j)) fun _ => N).trans (if_pos (Finset.mem_univ _))

/-- The receive semaphores, in the kernel's order. -/
def rcvEmb : Fin 2 × Fin 15 ↪ SemLoc sig :=
  ⟨fun k => .dma (rcvSem k.1 (far k.2)), fun k k' h => by
    have e := congrArg role h
    dsimp only at e
    rw [role_rcv, role_rcv] at e; injection e with e₁ e₂; exact Prod.ext e₁ e₂⟩

theorem creds (c : Dev nD) :
    (Pipeline.launchCred O₀ c : sProp 𝕄) ⊢ iprop(cred (tallyAt (barC c) () 15) ∗ landCreds c) := by
  unfold Pipeline.launchCred landCreds
  rw [bigSep_univ_at _ (SemLoc.reg barrier0), launch_bar]
  refine sep_mono_right ?_
  rw [show iprop((bigSep Finset.univ fun j : Fin 15 => cred (tallyAt (rcvC c 0 j) () N)) ∗ (bigSep Finset.univ fun j : Fin 15 => cred (tallyAt (rcvC c 1 j) () N)))
      = (bigSep (Finset.univ.map rcvEmb) fun sm => cred (tallyOn ((c : Thread nD τ), sm) (launchCredit (Pipeline.owing O₀) 0 ((c : Thread nD τ), sm))) : sProp 𝕄) from ?_]
  · refine bigSep_subset fun sm h => ?_
    obtain ⟨k, -, rfl⟩ := Finset.mem_map.mp h
    exact Finset.mem_erase.mpr ⟨fun e => (xsem_ne_bar (true, k)) e, Finset.mem_univ _⟩
  · rw [bigSep_map, bigSep_univ_prod, over_two]
    refine congrArg₂ _ ?_ ?_
    · exact bigSep_congr fun j _ => congrArg cred (launch_rcv c 0 j).symm
    · exact bigSep_congr fun j _ => congrArg cred (launch_rcv c 1 j).symm

end Cert.KernelIdeal.Body

end
-- ==== Proof.Launch.lean ====
/- The launch: the kernel's region around its body, the tokens and credits dealt to every device, and the run of
   @main on the sixteen devices. -/
module

public import proofs.«01_k».proof.Proof.Deal
public import proofs.«01_k».proof.Proof.Gen.KernelIdeal.Frame

@[expose] public section

set_option maxRecDepth 16384

noncomputable section

namespace Cert.KernelIdeal.Body

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The contents of the buffers at each stage of @main -/

abbrev A₀ (c : Dev nD) : Valuation τ sig (Elt F) := fun b => m (c, b)
/-- After the reshape of the operand. -/
abbrev A₁ (c : Dev nD) : Valuation τ sig (Elt F) := StableHlo.after hostOps0 (A₀ m c)
/-- The operand as the kernel reads it. -/
def Xin (c : Dev nD) : XC F := A₁ m c (Proc.devRef .tc main_v1)
/-- The weights as the kernel reads them. -/
def Win (c : Dev nD) : WC F := A₁ m c (Proc.devRef .tc main_arg1)
/-- After the kernel. -/
abbrev A₂ (c : Dev nD) : Valuation τ sig (Elt F) := Function.update (A₁ m c) (Proc.devRef .tc main_v2) (OUT (Xin m) (Win m c) c)
/-- After the reshape of the result. -/
abbrev A₃ (c : Dev nD) : Valuation τ sig (Elt F) := StableHlo.after hostOps1 (A₂ m c)

theorem A₂_v2 (c : Dev nD) : A₂ m c (Proc.devRef .tc main_v2) = OUT (Xin m) (Win m c) c := Function.update_self ..
theorem A₂_ne (c : Dev nD) (b : Ref sig .tc) (h : b ≠ main_v2) : A₂ m c (Proc.devRef .tc b) = A₁ m c (Proc.devRef .tc b) :=
  Function.update_of_ne (StableHlo.devRef_ne_of_ne h) ..

/-! ## The buffers held -/

/-- The arrays the region does not stage. -/
abbrev rest : Finset (DevRef τ sig) := Pipeline.ucRefs τ sig \ Pipeline.arrRefs spec0

abbrev pt (c : Dev nD) (b : Ref sig .tc) (f : b.ty.Contents (Elt F)) : sProp 𝕄 := (c : Thread nD τ).loc b ↦{fullShare} f

theorem arr_sub : Pipeline.arrRefs spec0 ⊆ Pipeline.ucRefs τ sig :=
  Pipeline.arrRefs_sub_ucRefs _ (fun w => winFacts0.arr_unscoped w)

theorem rest_eq (c : Dev nD) (W : Valuation τ sig (Elt F)) : (StableHlo.held (c : Thread nD τ) rest W : sProp 𝕄)
    = iprop(pt c main_arg0 (W main_arg0) ∗ pt c main_v1 (W main_v1) ∗ pt c main_v2 (W main_v2) ∗ pt c main_v3 (W main_v3)) := by
  unfold StableHlo.held
  rw [bigSep_eq_bigSepL_of_eq [Proc.devRef .tc main_arg0, Proc.devRef .tc main_v1, Proc.devRef .tc main_v2, Proc.devRef .tc main_v3] (by decide) (by decide)]
  rfl

theorem uc_eq (c : Dev nD) (W : Valuation τ sig (Elt F)) : (StableHlo.held (c : Thread nD τ) (Pipeline.ucRefs τ sig) W : sProp 𝕄)
    = iprop(pt c main_arg0 (W main_arg0) ∗ pt c main_arg1 (W main_arg1) ∗ pt c main_v1 (W main_v1) ∗ pt c main_v2 (W main_v2) ∗ pt c main_v3 (W main_v3)) := by
  unfold StableHlo.held
  rw [bigSep_eq_bigSepL_of_eq [Proc.devRef .tc main_arg0, Proc.devRef .tc main_arg1, Proc.devRef .tc main_v1, Proc.devRef .tc main_v2, Proc.devRef .tc main_v3] (by decide) (by decide)]
  rfl

/-! ## The kernel's own semaphores -/

abbrev Own : Type := (Bool × Fin 2 × Fin 15) ⊕ (Fin 8 ⊕ Fin 2)
def osem : Own → SemLoc sig := Sum.elim xsem (Sum.elim (fun q => .dma (inSem q)) fun s => .dma (outSem s))

theorem ownFacts : Pipeline.OwnSemFacts spec0 osem := by decide +kernel

theorem ownSems_eq (c : Dev nD) : (Pipeline.ownSems0 osem c : sProp 𝕄)
    = iprop((bigSep Finset.univ fun k : Bool × Fin 2 × Fin 15 => semVal ((c : Thread nD τ), xsem k) 0) ∗ copySems c) := by
  unfold Pipeline.ownSems0 copySems
  rw [bigSep_univ_sum, bigSep_univ_sum, over_two]
  rfl

theorem unscoped_eq : ∀ sm : SemLoc sig, sm.isScoped .tc = false → sm = .reg barrier0 := by decide
theorem unscopedSems_eq (c : Dev nD) : (unscopedSems0 c : sProp 𝕄) = semVal (barC c) 0 := by
  unfold unscopedSems0
  rw [show (Finset.univ.filter fun sm : SemLoc sig => ¬ sm.isScoped .tc) = {SemLoc.reg barrier0} from by decide, bigSep_singleton]

/-! ## What the launch keeps for the region -/

/-- The ghost state of device `c`: its position on its barrier cell, the right to open its other cells, the tokens
    of the duties it pays. -/
def linear (c : Dev nD) : sProp 𝕄 :=
  iprop(atPos ER (barC c) 0 ∅ 0 ∗ (bigSep Finset.univ fun k : Bool × Fin 2 × Fin 15 => openTok ER ((c : Thread nD τ), xsem k)) ∗ payToks c)

def Tk (c : Dev nD) : sProp 𝕄 :=
  iprop((∃ κ, records (Xin m) κ ∗ linear c) ∗ cred (tallyAt (barC c) () 15) ∗ landCreds c)
def Xk (c : Dev nD) : sProp 𝕄 := iprop((∃ κ, protoPre (Xin m) κ c) ∗ copySems c)
def Yk (c : Dev nD) : sProp 𝕄 := semVal (barC c) 0

theorem hopen (c : Dev nD) : iprop(Tk m c ∗ Pipeline.ownSems0 osem c ∗ levAts L lv) ⊢ (|={Set.univ}=> Xk m c : sProp 𝕄) := by
  rw [ownSems_eq]
  unfold Tk Xk linear
  iintro ⟨⟨⟨%κ, #HR, HaB, Ho, Ht⟩, HcB, HcV⟩, ⟨Hs, Hcp⟩, #Hlev⟩
  imod (big_upd (records (Xin m) κ)
      (Φ := fun k => iprop(openTok ER ((c : Thread nD τ), xsem k) ∗ semVal ((c : Thread nD τ), xsem k) 0))
      (Ψ := fun k => iprop(atPos ER ((c : Thread nD τ), xsem k) 0 ∅ 0 ∗ reached ER ((c : Thread nD τ), xsem k) 0)) fun k => by
        iintro ⟨#HR, Ho, Hs⟩
        iapply (Rounds.cell_open ER (Rd (Xin m)) (g := ((c : Thread nD τ), xsem k)) (Set.mem_univ (κ ((c : Thread nD τ), xsem k))))
        isplitr
        · iapply (records_inv (Xin m) κ (Finset.mem_union_right _ (Finset.mem_map_of_mem scEmb (Finset.mem_univ (c, k))))); iexact HR
        isplitl [Ho] <;> iassumption) $$ [Ho Hs] with Ha
  · isplitr; · iexact HR
    rw [bigSep_sep']
    isplitl [Ho] <;> iassumption
  imodintro
  isplitr [Hcp]
  · iexists κ; unfold protoPre
    isplitr; · iexact HR
    isplitr; · iexact Hlev
    isplitl [HcB]; · iexact HcB
    isplitl [HcV]; · iexact HcV
    isplitl [Ht]; · iexact Ht
    isplitl [HaB] <;> iassumption
  iexact Hcp

/-! ## The region's data -/

theorem read_w (c : Dev nD) (t : Fin cfg0.N) (f : (main_arg1 : Ref sig .tc).ty.Contents (Elt F)) :
    ((cfg0.win 0).blk t).view.read (Elt F) f = f := by
  obtain rfl := fin_N0 t
  funext i
  show f _ = f i
  refine congrArg f (funext fun a => Fin.ext ?_)
  fin_cases a
  · show 0 * 64 + 1 * (i 0).val = (i 0).val; omega
  · show 0 * 128 + 1 * (i 1).val = (i 1).val; omega

theorem cut_w (t : Fin cfg0.N) (f : (main_arg1 : Ref sig .tc).ty.Contents (Elt F)) :
    (cfg0.win 0).cut (cfg0.grid.coords t) f = f := by
  funext i
  exact congrArg f (funext fun a => Fin.ext rfl)

/-- Before the kernel's one point; after it. -/
def Pin (c : Dev nD) : sProp 𝕄 :=
  iprop(Pipeline.scopedRest spec0 c ∗ (∃ r, prngReg c r) ∗ StableHlo.held (c.tc : Thread nD τ) rest (A₁ m c) ∗ Xk m c)
def Pout (c : Dev nD) : sProp 𝕄 :=
  iprop(Pipeline.scopedRest spec0 c ∗ (∃ r, prngReg c r) ∗ StableHlo.held (c.tc : Thread nD τ) rest (A₂ m c) ∗ Pipeline.ownSems0 osem c ∗ Yk c)

/-- The region's proof data: the weights stay in their buffer; everything is owed before the point, nothing after. -/
def dat (c : Dev nD) : Dat τ (Elt F) Unit ℕ UU ℕ cfg0 c where
  A w := A₁ m c (Proc.devRef .tc (Pipeline.arrRef spec0 w))
  after | 0, _ => Win m c
        | ⟨_ + 1, h⟩, _ => absurd h (Nat.not_lt.2 (Nat.le_add_left _ _))
  Φ t := if t.val = 0 then Pin m c else Pout m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem owed_first (c : Dev nD) : (pdats (F := F) m 0 c).owed 0 = O₀ c := by
  show (if ((0 : Fin (cfg0.N + 1)).val = 0) then O₀ c else 0) = O₀ c; exact if_pos rfl
theorem owed_at (c : Dev nD) : (dat (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem found (c : Dev nD) (t : Fin cfg0.N) (d) : (dat (F := F) m c).before 0 t d = Win m c := by
  refine ((dat m c).before_in_eq_fetched 0 rfl (fun _ => rfl) (fun _ _ _ => rfl) (fun t => (cut_w (F := F) t _).trans (read_w (F := F) c t _).symm) t d).trans ?_
  exact read_w (F := F) c t _

theorem owesAt_intro (c : Dev nD) (t : Fin (cfg0.N + 1)) (O : CellTallies nD τ sig Unit) (h0 : (dat (F := F) m c).owed t = O) :
    ow c O ⊢ ((dat m c).owesAt () t : sProp 𝕄) := by
  unfold ow Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat (F := F) m c).owed t = O) :
    ((dat m c).owesAt () t : sProp 𝕄) ⊢ ow c O := by
  unfold ow Dat.owesAt Pipeline.owesWithin; rw [h0]
  iintro ⟨%W, -, HO⟩; iexists W; iexact HO

theorem body (c : Dev nD) : BodyObligation (dat (F := F) m c) defs₀ 𝒱₀ () Set.univ := fun t => by
  obtain rfl := fin_N0 t
  rw [bigSep_W0, bigSep_W0]
  rw [show (dat m c).Φ t0_0.castSucc = Pin m c from rfl, show (dat m c).Φ t0_0.succ = Pout m c from rfl]
  show iprop(Pin m c ∗ (dat m c).owesAt () t0_0.castSucc ∗ ∃ d, owns (c : Thread nD τ) (Memref.whole cc0_stg0_0) fullShare ((dat m c).before 0 t0_0 d))
    ⊢ WP c (bodyAt0 t0_0) fun _ => iprop(Pout m c ∗ (dat m c).owesAt () t0_0.succ ∗ owns (c : Thread nD τ) (Memref.whole cc0_stg0_0) fullShare ((dat m c).after 0 t0_0))
  rw [body_eq]
  unfold Pin Pout Xk Yk
  rw [scopedRest0_eq, rest_eq, rest_eq, ownSems_eq]
  iintro ⟨⟨Hsc, Hp, ⟨Ha0, Hv1, Hv2, Hv3⟩, ⟨%κ, Hpr⟩, Hcp⟩, HO, ⟨%d, Hw⟩⟩
  rw [found]
  ihave Hw := (Entails.of_eq (owns_whole (c : Thread nD τ) cc0_stg0_0 fullShare (Win m c))) $$ Hw
  ihave HO := (owesAt_elim m c _ (O₀ c) (owed_at m c)) $$ HO
  iapply (run (Xin m) (Win m c) κ c _)
  isplitl [Hsc Hv1 Hv2 Hpr Hcp HO Hw]
  · isplitl [Hpr]; · iexact Hpr
    isplitl [Hcp]; · iexact Hcp
    isplitl [Hsc]; · unfold scratch; iexact Hsc
    isplitl [HO]; · iexact HO
    isplitl [Hv1]; · iexact Hv1
    isplitl [Hv2]; · iexists _; iexact Hv2
    iexact Hw
  unfold runPost
  iintro ⟨HO, HbB, Hss, Hcp, Hsc, Hv1, Hv2, Hw⟩
  isplitr [HO Hw]
  · isplitl [Hsc]; · unfold scratch; iexact Hsc
    isplitl [Hp]; · iexact Hp
    isplitl [Ha0 Hv1 Hv2 Hv3]
    · rw [A₂_ne m c main_arg0 (by decide), A₂_ne m c main_v1 (by decide), A₂_ne m c main_v3 (by decide), A₂_v2]
      isplitl [Ha0]; · iexact Ha0
      isplitl [Hv1]; · iexact Hv1
      isplitl [Hv2] <;> iassumption
    isplitl [Hss Hcp]
    · isplitl [Hss] <;> iassumption
    iexact HbB
  isplitl [HO]
  · iapply (owesAt_intro m c t0_0.succ 0 (owed_last m c)); iexact HO
  rw [show (dat m c).after 0 t0_0 = Win m c from rfl]
  iapply (Entails.of_eq (owns_whole (c : Thread nD τ) cc0_stg0_0 fullShare (Win m c)).symm)
  iexact Hw

/-! ## The region -/

theorem owed_above (c : Dev nD) (t : Fin (cfg0.N + 1)) : Above 0 ((dat (F := F) m c).owed t) := by
  show Above 0 (if t.val = 0 then O₀ c else 0)
  split
  · exact above_O₀ c
  · exact above_zero 0

theorem stage_role : ∀ (w : Fin 1) (s : Fin (spec0 w).nbuf), role (.dma ((spec0 w).sem s)) = .other := by
  intro w s
  obtain rfl := Subsingleton.elim w (0 : Fin 1)
  obtain rfl : s = (0 : Fin 1) := Subsingleton.elim (α := Fin 1) s 0
  rfl
theorem stage_lv (c : Dev nD) (w : Fin 1) (s : Fin (spec0 w).nbuf) : lv ((c : Thread nD τ), .dma ((spec0 w).sem s)) () = 0 := by
  unfold lv; rw [stage_role]

theorem phi_last (c : Dev nD) : (dat (F := F) m c).Φ (Fin.last cfg0.N) = Pout m c := by
  show (if (Fin.last cfg0.N).val = 0 then Pin m c else Pout m c) = _
  rw [Fin.val_last, if_neg (by rw [show cfg0.N = 1 from N_0]; decide)]

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem ownFacts
    rest rest (Finset.Subset.refl _) launch0.toP rfl (fun c => (body m c).loose)
    (fun _ => 0) O₀ (fun c => (owed_first m c).trans (zero_add _).symm) (owed_last m) (fun _ => rfl) (fun c w => by show (if _ then fullShare else fullShare) = fullShare; split <;> rfl)
    (A₁ m) (A₂ m) (fun _ b hb => absurd hb (by rw [Finset.sdiff_self]; exact Finset.notMem_empty b))
    (Tk m) Yk (Xk m) Yk (hopen m) (fun c => Entails.refl _) (fun c => Entails.of_eq (phi_last m c))
    (fun c => by iintro H; imodintro; iexact H)
    (fun _ => 0)
    ⟨fun c w s => by rw [L_tc]; exact Finset.mem_singleton_self _, fun c w s => Nat.le_of_eq (stage_lv c w s), fun c t g i h => owed_above m c t g i h⟩
    (fun _ => iprop(emp))
    (fun _ _ => rfl)
    (fun c w => by
      obtain rfl := Subsingleton.elim w 0
      exact ((dat m c).arrAt_in 0 rfl _).trans (A₂_ne m c main_arg1 (by decide)).symm)

/-- What the other devices and the launch give the kernel, kept over the first reshape. -/
def R₀ (c : Dev nD) : sProp 𝕄 :=
  iprop((Tk m c ∗ ∃ r, prngReg c r) ∗ ∃ W, owes (c : Thread nD τ) (O₀ c) W)
def R₁ (c : Dev nD) : sProp 𝕄 :=
  iprop(semVal (barC c) 0 ∗ ∃ W, owes (c : Thread nD τ) (0 : CellTallies nD τ sig Unit) W)

theorem reg_pre (c : Dev nD) : iprop(StableHlo.held (c : Thread nD τ) (Pipeline.ucRefs τ sig) (A₁ m c) ∗ R₀ m c) ⊢ (reg m).pre c := by
  show _ ⊢ iprop(StableHlo.held (c.tc : Thread nD τ) (Pipeline.arrRefs (τ := τ) spec0) (A₁ m c) ∗ (∃ r, prngReg c r)
    ∗ (StableHlo.held (c.tc : Thread nD τ) rest (A₁ m c) ∗ emp) ∗ Tk m c ∗ ∃ Wd, owes (c : Thread nD τ) (0 + O₀ c) Wd)
  rw [zero_add, StableHlo.held_sub_split (c : Thread nD τ) arr_sub]
  unfold R₀
  iintro ⟨⟨Hw, Hr⟩, ⟨HT, Hp⟩, HO⟩
  isplitl [Hw]; · iexact Hw
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (A₂ m c) ∗ R₁ c) := by
  show iprop(StableHlo.held (c.tc : Thread nD τ) (Pipeline.arrRefs (τ := τ) spec0) (A₂ m c) ∗ (∃ r, prngReg c r)
    ∗ (StableHlo.held (c.tc : Thread nD τ) rest (A₂ m c) ∗ emp) ∗ Yk c ∗ ∃ Wd, owes (c : Thread nD τ) (0 : CellTallies nD τ sig Unit) Wd) ⊢ _
  rw [StableHlo.held_sub_split (c : Thread nD τ) arr_sub]
  unfold R₁ Yk
  iintro ⟨Hw, -, ⟨Hr, -⟩, Hb, HO⟩
  isplitl [Hw Hr]
  · isplitl [Hw] <;> iassumption
  isplitl [Hb] <;> iassumption

def host0 : Pipeline.HostSeg (Ix := Unit) (Name := ℕ) (U := UU) (Lvl := ℕ) (pcfgs (F := F)) defs₀ 𝒱₀ L lv :=
  Pipeline.HostSeg.ofOps (pcfgs (F := F)) defs₀ 𝒱₀ L lv (Pipeline.ucRefs τ sig) hostOps0
    (fun op h => Pipeline.sub_ucRefs op (List.forall_iff_forall_mem.1 hostOps0_sub op h)) (List.forall_iff_forall_mem.1 hostOps0_fresh) (A₀ m) (R₀ m)
def host1 : Pipeline.HostSeg (Ix := Unit) (Name := ℕ) (U := UU) (Lvl := ℕ) (pcfgs (F := F)) defs₀ 𝒱₀ L lv :=
  Pipeline.HostSeg.ofOps (pcfgs (F := F)) defs₀ 𝒱₀ L lv (Pipeline.ucRefs τ sig) hostOps1
    (fun op h => Pipeline.sub_ucRefs op (List.forall_iff_forall_mem.1 hostOps1_sub op h)) (List.forall_iff_forall_mem.1 hostOps1_fresh) (A₂ m) R₁

/-- @main as a list of segments. -/
def segs : List (Pipeline.Seg (pcfgs (F := F)) adm (pdats m) () defs₀ 𝒱₀ L lv) :=
  [.host (host0 m), .region (reg m), .host (host1 m)]

/-! ## The launch -/

theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact xsem_ne_bar ck.2 (congrArg Prod.snd h)

def u₀ : UU :=
  (initOf (Pipeline.cells (Pipeline.pin (pcfgs (F := F)) adm) cellOf_inj) (Pipeline.launchToks (Pipeline.pin (pcfgs (F := F)) adm) cellOf_inj),
    (launchOf barCells scCells allToks, 1))

theorem ownUU (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The protocol's starting element, whole, held by the first device until the launch deals it. -/
def start : Dev nD → sProp 𝕄 := fun c => if c = 0 then BI.own (ER (launchOf barCells scCells allToks)) else iprop(emp)
theorem start_eq : bigSep Finset.univ start = (BI.own (ER (launchOf barCells scCells allToks)) : sProp 𝕄) := by
  rw [bigSep_univ_at _ (0 : Dev nD), bigSep_congr (s := Finset.univ.erase (0 : Dev nD)) (Ψ := fun _ => (BI.emp : sProp 𝕄))
      fun c hc => by unfold start; rw [if_neg (Finset.ne_of_mem_erase hc)]; rfl, BI.bigSep_emp_const]
  unfold start; rw [if_pos rfl]
  exact BI.equiv_iff.mp sep_emp

abbrev T₀ (c : Dev nD) : sProp 𝕄 := iprop(StableHlo.held (c : Thread nD τ) (Pipeline.ucRefs τ sig) (A₀ m c) ∗ R₀ m c)
abbrev Tₙ (c : Dev nD) : sProp 𝕄 := iprop(StableHlo.held (c : Thread nD τ) (Pipeline.ucRefs τ sig) (A₃ m c) ∗ semVal (barC c) 0)

/-- What a device holds at the launch besides its ghost state. -/
def holds (c : Dev nD) : sProp 𝕄 :=
  iprop(StableHlo.held (c : Thread nD τ) (Pipeline.ucRefs τ sig) (A₀ m c) ∗ (cred (tallyAt (barC c) () 15) ∗ landCreds c)
    ∗ owes (c : Thread nD τ) (O₀ c) ∅ ∗ ∃ r, prngReg c r)

theorem T₀_of (κ : GSem nD τ sig → ℕ) (c : Dev nD) : iprop(records (Xin m) κ ∗ (linear c ∗ holds m c)) ⊢ T₀ m c := by
  unfold holds T₀ R₀ Tk
  iintro ⟨#HR, Hl, Hh, ⟨H1, HN⟩, HO, Hp⟩
  isplitl [Hh]; · iexact Hh
  isplitr [HO]
  · isplitr [Hp]
    · isplitl [Hl]
      · iexists κ; isplitr; · iexact HR
        iexact Hl
      isplitl [H1] <;> iassumption
    iexact Hp
  iexists ∅; iexact HO

theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ start c)) ∗ levAts L lv)
      ⊢ (|={Set.univ}=> bigSep Finset.univ (T₀ m) : sProp 𝕄) := by
  have each (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ start c)
      ⊢ (iprop(holds m c ∗ (semVal (barC c) 0 ∗ start c)) : sProp 𝕄) := by
    rw [show unscopedBufs c (fun b => m ((c : Thread nD τ).loc b)) = StableHlo.held (c : Thread nD τ) (Pipeline.ucRefs τ sig) (A₀ m c) from
      Pipeline.unscopedBufs_held c (A₀ m c), unscopedSems_eq]
    unfold holds
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Bool × Fin 2 × Fin 15 => openTok ER ((c : Thread nD τ), xsem k)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ start c))
      ⊢ (bigSep Finset.univ fun c : Dev nD => iprop(holds m c ∗ (semVal (barC c) 0 ∗ start c)) : sProp 𝕄) from bigSep_mono fun c _ => each c) $$ H
  ihave H2 := Smoke.bigSep_unpair $$ H'; icases H2 with ⟨HB, H3⟩
  ihave H4 := Smoke.bigSep_unpair $$ H3; icases H4 with ⟨Hv, HG⟩
  ihave Hu := (Entails.of_eq (start_eq (F := F))) $$ HG
  imod (Rounds.fund_launch ER (Rd (Xin m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records (Xin m) κ) (Φ := fun c => iprop(linear c ∗ holds m c)) fun c _ => T₀_of m κ c)
  isplitr
  · unfold records
    isplitr; · iexact Hinv
    iexact Hr
  iapply Smoke.bigSep_pair
  isplitr [HB]
  · unfold linear
    iapply Smoke.bigSep_pair; isplitl [Hat]; · iapply hat $$ Hat
    iapply Smoke.bigSep_pair; isplitl [Hopen]; · iapply hop $$ Hopen
    iapply (toks_around (F := F))
    iapply (Entails.of_eq (allToks_eq (F := F))) $$ Htok
  · iexact HB

/-! ## What @main leaves -/

theorem A₁_arg0 (c : Dev nD) : A₁ m c main_arg0 = m ((c : Thread nD τ).loc main_arg0) := V_main_arg0 m c
theorem A₁_arg1 (c : Dev nD) : A₁ m c main_arg1 = m ((c : Thread nD τ).loc main_arg1) := V_main_arg1 m c
theorem A₃_ne (c : Dev nD) (b : Ref sig .tc) (h : b ≠ main_v3) : A₃ m c b = A₂ m c b := by
  show StableHlo.after hostOps1 (A₂ m c) (Proc.devRef .tc b) = _
  unfold hostOps1
  rw [StableHlo.after_cons, StableHlo.after_nil]
  exact StableHlo.reshape_result_ne main_v2 main_v3 _ _ _ _ _ h

set_option backward.isDefEq.respectTransparency.types false in
/-- Every run of @main on the sixteen devices ends; it leaves the arguments as they were, the result as the reshape of
    what the kernel computes, and every semaphore at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = A₃ m c main_v3) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host0 m) (host1 m) (reg m) rfl rfl c]; rfl)
    (by simp only [segs, Pipeline.Seg.pipes_host, Pipeline.Seg.pipes_region, Pipeline.Seg.pipes_nil]; decide)
    (O₀ := O₀) (hL := L_of_ne) (G := start) (u₀ := u₀)
    (hu₀ := by
      unfold u₀
      iintro Hu
      ihave H := (ownUU _ _) $$ Hu
      icases H with ⟨HP, HX⟩
      imodintro
      isplitl [HP]; · iexact HP
      rw [start_eq]; iexact HX)
    (T₀ := T₀ m) (Tₙ := Tₙ m)
    (hch := by
      refine ⟨fun c => .rfl, fun c => reg_pre m c, fun c => reg_post m c, fun c => ?_⟩
      show iprop(StableHlo.held (c : Thread nD τ) (Pipeline.ucRefs τ sig) (A₃ m c) ∗ R₁ c)
        ⊢ iprop(Tₙ m c ∗ ∃ W, owes (c : Thread nD τ) (0 : CellTallies nD τ sig Unit) W)
      unfold R₁
      iintro ⟨Hh, Hb, HO⟩
      isplitr [HO]
      · isplitl [Hh] <;> iassumption
      · iexact HO)
    (hinit := deal m ρ)
    (QY := fun c s => (s.mem ((c : Thread nD τ).loc main_arg0) = A₃ m c main_arg0 ∧ s.mem ((c : Thread nD τ).loc main_arg1) = A₃ m c main_arg1
        ∧ s.mem ((c : Thread nD τ).loc main_v3) = A₃ m c main_v3)
      ∧ s.sem (barC c) = 0)
    (hfin := fun c s' => by
      dsimp only [Tₙ]; rw [uc_eq]
      iintro ⟨⟨⟨H0, H1, -, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        rw [A₃_ne m c main_arg0 (by decide), A₂_ne m c main_arg0 (by decide), A₁_arg0] at h0
        rw [A₃_ne m c main_arg1 (by decide), A₂_ne m c main_arg1 (by decide), A₁_arg1] at h1
        exact ⟨h0, h1, h3⟩,
      sem_eq_zero hs fun c sm hsm => by
        obtain rfl := unscoped_eq sm hsm
        exact (h c).2⟩)

end Cert.KernelIdeal.Body

end
-- ==== Proof.Frames.lean ====
/- The frames of the two kernel programs, from the run of @main. No operation of the kernel is rewritten in the ideal
   program, so the two programs are one, and its run, which is proved over any float operations, serves both. -/
module

public import proofs.«01_k».proof.Defs
public import proofs.«01_k».proof.Proof.Launch
public import proofs.«01_k».proof.Proof.Gen.Kernel

@[expose] public section

set_option maxRecDepth 16384

noncomputable section

namespace Cert.Proof

open Idealize.ShloMosaic Idealize.ShloMosaic.TcCoe Idealize.SL.Sem

variable {F : FTy → Type} [FloatOps F]

theorem main_same : Cert.Kernel.main (F := F) = Cert.KernelIdeal.main (F := F) := rfl

theorem rows_same : Cert.Kernel.defs₀ (F := F) = Cert.KernelIdeal.defs₀ (F := F) := by
  unfold Cert.Kernel.defs₀ Cert.KernelIdeal.defs₀
  refine congrArg Defs.onTc ?_
  funext l a
  match l, a with
  | 0, _ => rfl
  | ⟨_ + 1, h⟩, _ => exact absurd h (Nat.not_lt.2 (Nat.le_add_left _ _))

theorem defs_same : Cert.Kernel.defs (F := F) = Cert.KernelIdeal.defs (F := F) :=
  congrArg (Pipeline.defs (Cert.KernelIdeal.pcfgs (F := F))) rows_same

theorem frame_ideal : Cert.quiescent_KernelIdeal (hKernelIdeal := Cert.KernelIdeal.Gen.facts) := fun m ρ _ =>
  (θ_run Cert.KernelIdeal.defs (onTc (τ := Cert.KernelIdeal.τ) Cert.KernelIdeal.main) ⟨m, fun _ => 0, ρ⟩).mono
    (fun _ h => ⟨fun c => ⟨(h.1 c).1, (h.1 c).2.1⟩, h.2⟩) (Cert.KernelIdeal.Body.run_main m ρ)

theorem frame_kernel : Cert.quiescent_Kernel (hKernel := Cert.Kernel.Gen.facts) := fun m ρ _ => by
  rw [defs_same]
  exact (θ_run Cert.KernelIdeal.defs (onTc (τ := Cert.KernelIdeal.τ) Cert.KernelIdeal.main) ⟨m, fun _ => 0, ρ⟩).mono
    (fun _ h => ⟨fun c => ⟨(h.1 c).1, (h.1 c).2.1⟩, h.2⟩) (Cert.KernelIdeal.Body.run_main m ρ)

end Cert.Proof
end
-- ==== Proof.Normal.lean ====
/- The arithmetic of one entry, free of arrays: the numbers the two programs write as bits, the kernel's
   activation of an entry from its channel's two sums, the reference's from its channel's mean and variance,
   and that over real numbers the two are one. -/
module

public import Idealize.ShloMosaic.Lib.IdealHost
public import Idealize.ShloMosaic.PureOps.Ideal.Laws

@[expose] public section

noncomputable section

namespace Cert.Normal

open Idealize.ShloMosaic
open scoped BigOperators

/-! ## The numbers written as bits -/

/-- The number added to the variance. -/
def eps : ℝ := 10995116 / 1099511627776

theorem eps_pos : 0 < eps := by unfold eps; norm_num

theorem bits_eps : Ideal.ofBits .f32 0x3727C5AC#32 = (eps : EReal) := by
  unfold eps; simp [Ideal.ofBits, Ideal.ieee, -EReal.coe_mul]; norm_num

theorem bits_count : Ideal.ofBits .f32 0x48800000#32 = ((262144 : ℝ) : EReal) := by
  simp [Ideal.ofBits, Ideal.ieee, -EReal.coe_mul]; norm_num

theorem bits_share : Ideal.ofBits .f32 0x36800000#32 = ((1 / 262144 : ℝ) : EReal) := by
  simp [Ideal.ofBits, Ideal.ieee, -EReal.coe_mul]; norm_num

/-! ## One entry -/

/-- The reciprocal of the standard deviation, from a channel's sum `T` and sum of squares `Q`. -/
def invStd (T Q : EReal) : EReal :=
  Ideal.rsqrt (Q * Ideal.ofBits .f32 0x36800000#32
    - T * Ideal.ofBits .f32 0x36800000#32 * (T * Ideal.ofBits .f32 0x36800000#32) + Ideal.ofBits .f32 0x3727C5AC#32)

/-- The kernel's normalized entry. -/
def hat (T Q x : EReal) : EReal := x * invStd T Q + (0 - T * Ideal.ofBits .f32 0x36800000#32) * invStd T Q

/-- The kernel's activation. -/
def act (T Q x : EReal) : EReal := hat T Q x * Ideal.logistic (hat T Q x)

/-- The real normalized entry, of mean `μ` and variance `v`. -/
def hatR (μ v x : ℝ) : ℝ := (x - μ) * (Real.sqrt (v + eps))⁻¹

/-- The real activation. -/
def actR (μ v x : ℝ) : ℝ := hatR μ v x * (1 + Real.exp (-hatR μ v x))⁻¹

theorem invStd_coe (T Q : ℝ) (hv : 0 ≤ Q / 262144 - (T / 262144) ^ 2) :
    invStd T Q = ((Real.sqrt (Q / 262144 - (T / 262144) ^ 2 + eps))⁻¹ : ℝ) := by
  unfold invStd
  rw [bits_share, bits_eps, ← EReal.coe_mul, ← EReal.coe_mul, ← EReal.coe_mul, ← EReal.coe_sub, ← EReal.coe_add,
    show Q * (1 / 262144) - T * (1 / 262144) * (T * (1 / 262144)) + eps = Q / 262144 - (T / 262144) ^ 2 + eps by ring,
    Ideal.rsqrt_coe, if_neg (by have := eps_pos; linarith), if_neg (by have := eps_pos; linarith)]

/-- Over real numbers the kernel's activation is the real one. -/
theorem act_coe (T Q x : ℝ) (hv : 0 ≤ Q / 262144 - (T / 262144) ^ 2) :
    act T Q x = (actR (T / 262144) (Q / 262144 - (T / 262144) ^ 2) x : ℝ) := by
  have h : hat T Q x = (hatR (T / 262144) (Q / 262144 - (T / 262144) ^ 2) x : ℝ) := by
    unfold hat hatR
    rw [invStd_coe T Q hv, bits_share, ← EReal.coe_zero, ← EReal.coe_mul, ← EReal.coe_mul, ← EReal.coe_sub, ← EReal.coe_mul,
      ← EReal.coe_add]
    congr 1; ring
  unfold act actR
  rw [h, Ideal.logistic_coe, ← EReal.coe_mul]

/-- Over real numbers so is the reference's, from the mean and the variance. -/
theorem ref_coe (μ v x : ℝ) (hv : 0 ≤ v) (d h : EReal) (hd : d = ((x - μ : ℝ) : EReal))
    (hh : h = Ideal.div d (Ideal.sqrt ((v : EReal) + Ideal.ofBits .f32 0x3727C5AC#32))) :
    Ideal.div h (1 + Ideal.exp (-h)) = (actR μ v x : ℝ) := by
  have hp : 0 < v + eps := by have := eps_pos; linarith
  have e : h = (hatR μ v x : ℝ) := by
    rw [hh, hd, bits_eps, ← EReal.coe_add, Ideal.sqrt_coe, if_neg (not_lt.mpr hp.le),
      Ideal.div_coe (Real.sqrt_ne_zero'.mpr hp), ← EReal.coe_mul, one_div]
    rfl
  have hs : (1 : ℝ) + Real.exp (-hatR μ v x) ≠ 0 := by have := Real.exp_pos (-hatR μ v x); linarith
  rw [e, ← EReal.coe_neg, Ideal.exp_coe, ← EReal.coe_one, ← EReal.coe_add, Ideal.div_coe hs, ← EReal.coe_mul, one_div]
  rfl

/-! ## Sums of real numbers -/

/-- A finite sum of real numbers, summed in the extended reals. -/
theorem sum_coe {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- The mean of the squared deviations is the mean of the squares less the square of the mean. -/
theorem variance {ι : Type} [Fintype ι] (N : ℝ) (hN : (Fintype.card ι : ℝ) = N) (h0 : N ≠ 0) (f : ι → ℝ) :
    (∑ i, (f i - (∑ i, f i) / N) * (f i - (∑ i, f i) / N)) / N = (∑ i, f i * f i) / N - ((∑ i, f i) / N) ^ 2 := by
  have e : ∀ μ : ℝ, ∑ i, (f i - μ) * (f i - μ) = ∑ i, f i * f i - 2 * μ * ∑ i, f i + N * (μ * μ) := by
    intro μ
    rw [Finset.mul_sum, ← hN, ← nsmul_eq_mul, ← Finset.card_univ, ← Finset.sum_const, ← Finset.sum_sub_distrib, ← Finset.sum_add_distrib]
    exact Finset.sum_congr rfl fun i _ => by ring
  rw [e]
  field_simp
  ring

/-- A sum over `m * n` numbers, `n` at a time. -/
theorem sum_split {M : Type} [AddCommMonoid M] (m n : ℕ) (f : Fin (m * n) → M) :
    ∑ q, f q = ∑ i : Fin m, ∑ j : Fin n, f ⟨j.val + n * i.val, (finProdFinEquiv (i, j)).isLt⟩ := by
  rw [← finProdFinEquiv.sum_comp, Fintype.sum_prod_type]
  rfl

end Cert.Normal

end
-- ==== Proof.KernelValue.lean ====
/- What the kernel computes at an index: the sums of a device, the sums of a channel over every device, and an
   output entry as the activations of its pixel times the weights. -/
module

public import proofs.«01_k».proof.Proof.Contents
public import proofs.«01_k».proof.Proof.Normal
public import Idealize.ShloMosaic.Lib.Pointwise

@[expose] public section

set_option maxRecDepth 16384

noncomputable section

namespace Cert.KernelIdeal.Body

open Idealize.ShloMosaic Idealize.ShloMosaic.TcCoe
open Cert.KernelIdeal.Gen
open Cert.Normal
open scoped BigOperators

/-- The entries of a device's input, and the weights. -/
abbrev X3 := S2x16384x64.Idx → EReal
abbrev W2 := S64x128.Idx → EReal

/-! ## The stored vectors -/

theorem sPay_sum (x0 x1 x2 x3 : Vec Ideal S1x4096x64 .f32) (h : Fin 64) : sPay x0 x1 x2 x3 (ix3 0 0 h)
    = ∑ r : Fin 4096, x0 (ix3 0 r h) + ∑ r : Fin 4096, x1 (ix3 0 r h) + ∑ r : Fin 4096, x2 (ix3 0 r h) + ∑ r : Fin 4096, x3 (ix3 0 r h) := by
  pointwise [sPay, k0_pay11, k0_pay10, k0_pay1, k0_pay2, k0_pay3, k0_pay4, k0_pay5, k0_pay6, k0_pay7, k0_pay8, k0_pay9]

theorem sPay_sq (x0 x1 x2 x3 : Vec Ideal S1x4096x64 .f32) (h : Fin 64) : sPay x0 x1 x2 x3 (ix3 0 1 h)
    = ∑ r : Fin 4096, x0 (ix3 0 r h) * x0 (ix3 0 r h) + ∑ r : Fin 4096, x1 (ix3 0 r h) * x1 (ix3 0 r h)
      + ∑ r : Fin 4096, x2 (ix3 0 r h) * x2 (ix3 0 r h) + ∑ r : Fin 4096, x3 (ix3 0 r h) * x3 (ix3 0 r h) := by
  pointwise [sPay, k0_pay11, k0_pay10, k0_pay1, k0_pay2, k0_pay3, k0_pay4, k0_pay5, k0_pay6, k0_pay7, k0_pay8, k0_pay9]

theorem oPay_apply (v : Vec Ideal S1x16x2x64 .f32) (x : Vec Ideal S1x4096x64 .f32) (w : Vec Ideal S64x128 .f32) (r : Fin 4096) (o : Fin 128) :
    oPay v x w (ix3 0 r o) = ∑ k : Fin 64,
      act (∑ d : Fin 16, v (ix4 0 d 0 k)) (∑ d : Fin 16, v (ix4 0 d 1 k)) (x (ix3 0 r k)) * w (ix2 k o) := by
  pointwise [oPay, k0_pay28, k0_pay27, k0_pay26, k0_pay25, k0_pay24]
  rfl

/-! ## The sums of a device -/

theorem xc_apply (f : X3) (q : Fin 8) (r : Fin 4096) (h : Fin 64) :
    xc (F := Ideal) f q (ix3 0 r h) = f (ix3 (bat q) (⟨4096 * (q.val % 4) + r.val, by have := r.isLt; omega⟩ : Fin 16384) h) := by
  show f ((rX q).emb _) = _
  rw [ix3_eq_valueIdx, rX_emb, ix3_eq_valueIdx]

/-- The rows of a batch, chunk by chunk. -/
theorem rows (φ : X3) (b : Fin 2) (h : Fin 64) :
    ∑ p : Fin 16384, φ (ix3 b p h) = ∑ j : Fin 4, ∑ r : Fin 4096,
      φ (ix3 b (⟨4096 * j.val + r.val, by have := r.isLt; have := j.isLt; omega⟩ : Fin 16384) h) := by
  refine (sum_split 4 4096 (fun p : Fin 16384 => φ (ix3 b p h))).trans ?_
  refine Finset.sum_congr rfl fun j _ => Finset.sum_congr rfl fun r _ => ?_
  exact congrArg (fun p : Fin 16384 => φ (ix3 b p h)) (Fin.ext (Nat.add_comm _ _))

theorem xc_ch (f : X3) (b : Fin 2) (j : Fin 4) (r : Fin 4096) (h : Fin 64) : xc (F := Ideal) f (ch b j) (ix3 0 r h)
    = f (ix3 b (⟨4096 * j.val + r.val, by have := r.isLt; have := j.isLt; omega⟩ : Fin 16384) h) := by
  have e1 : bat (ch b j) = b := by revert b j; decide
  have e2 : (ch b j).val % 4 = j.val := by revert b j; decide
  rw [xc_apply, e1]
  simp only [e2]

theorem sVal_sum (f : X3) (b : Fin 2) (h : Fin 64) : sVal (F := Ideal) f b (ix3 0 0 h) = ∑ p : Fin 16384, f (ix3 b p h) := by
  unfold sVal
  rw [sPay_sum, rows (fun i => f i), Fin.sum_univ_four]
  simp only [xc_ch]

theorem sVal_sq (f : X3) (b : Fin 2) (h : Fin 64) :
    sVal (F := Ideal) f b (ix3 0 1 h) = ∑ p : Fin 16384, f (ix3 b p h) * f (ix3 b p h) := by
  unfold sVal
  rw [sPay_sq, rows (fun i => f i * f i), Fin.sum_univ_four]
  simp only [xc_ch]

/-! ## The sums of every device -/

/-- The sixteen slots hold the sums of the sixteen devices. -/
theorem slots (c : Dev nD) (φ : Dev nD → EReal) : ∑ d : Fin 16, φ (back c d) = ∑ e : Dev nD, φ e := by
  have hi : Function.Injective (back c) := by revert c; decide
  exact Function.Bijective.sum_comp ((Fintype.bijective_iff_injective_and_card _).2 ⟨hi, rfl⟩) φ

theorem gV_sum (X : Dev nD → X3) (c : Dev nD) (b : Fin 2) (h : Fin 64) : ∑ d : Fin 16, gV (F := Ideal) X c b (ix4 0 d 0 h)
    = ∑ e : Dev nD, ∑ p : Fin 16384, X e (ix3 b p h) := by
  rw [← slots c fun e => ∑ p : Fin 16384, X e (ix3 b p h)]
  refine Finset.sum_congr rfl fun d _ => ?_
  rw [ix4_eq_valueIdx, gV_apply, rVal_apply, ← ix3_eq_valueIdx, sVal_sum]

theorem gV_sq (X : Dev nD → X3) (c : Dev nD) (b : Fin 2) (h : Fin 64) : ∑ d : Fin 16, gV (F := Ideal) X c b (ix4 0 d 1 h)
    = ∑ e : Dev nD, ∑ p : Fin 16384, X e (ix3 b p h) * X e (ix3 b p h) := by
  rw [← slots c fun e => ∑ p : Fin 16384, X e (ix3 b p h) * X e (ix3 b p h)]
  refine Finset.sum_congr rfl fun d _ => ?_
  rw [ix4_eq_valueIdx, gV_apply, rVal_apply, ← ix3_eq_valueIdx, sVal_sq]

/-- The pixels of the whole array, device by device. -/
theorem pixels (ψ : Fin 2048 → Fin 128 → EReal) :
    ∑ u : Fin 2048, ∑ v : Fin 128, ψ u v = ∑ e : Dev nD, ∑ p : Fin 16384,
      ψ ⟨128 * e.val + p.val / 128, by have : e.val < 16 := e.isLt; have := p.isLt; omega⟩ ⟨p.val % 128, Nat.mod_lt _ (by decide)⟩ := by
  refine (sum_split 16 128 (fun u : Fin 2048 => ∑ v : Fin 128, ψ u v)).trans (Finset.sum_congr rfl fun e _ => ?_)
  symm
  refine (sum_split 128 128 (fun p : Fin 16384 => ψ _ _)).trans
    (Finset.sum_congr rfl fun u _ => Finset.sum_congr rfl fun v _ => ?_)
  have hu := u.isLt
  have hv := v.isLt
  congr 1 <;> apply Fin.ext <;> simp only <;> omega

/-! ## The output -/

theorem weights (w : W2) (k : Fin 64) (o : Fin 128) :
    wV.view.readAt (Elt Ideal) rW.toLoadRect w (ix2 k o) = w (ix2 k o) := by
  show w (rW.emb (ix2 k o)) = _
  congr 1
  funext a; apply Fin.ext
  match a with
  | ⟨0, _⟩ => show 0 + 1 * k.val = k.val; omega
  | ⟨1, _⟩ => show 0 + 1 * o.val = o.val; omega

/-- An entry of an output chunk: the activations of its pixel times the weights, the sums being those of its
    channel over every device. -/
theorem oVal_apply (X : Dev nD → X3) (w : W2) (c : Dev nD) (q : Fin 8) (r : Fin 4096) (o : Fin 128) :
    oVal (F := Ideal) X w c q (ix3 0 r o) = ∑ k : Fin 64,
      act (∑ e : Dev nD, ∑ p : Fin 16384, X e (ix3 (bat q) p k))
        (∑ e : Dev nD, ∑ p : Fin 16384, X e (ix3 (bat q) p k) * X e (ix3 (bat q) p k))
        (X c (ix3 (bat q) (⟨4096 * (q.val % 4) + r.val, by have := r.isLt; omega⟩ : Fin 16384) k)) * w (ix2 k o) := by
  unfold oVal
  rw [oPay_apply]
  refine Finset.sum_congr rfl fun k _ => ?_
  rw [gV_sum, gV_sq, weights, xc_apply]

theorem OUT_eq (X : Dev nD → X3) (w : W2) (c : Dev nD) (b : Fin 2) (p : Fin 16384) (o : Fin 128)
    (q : Fin 8) (hq : q.val = 4 * b.val + p.val / 4096) (r : Fin 4096) (hr : r.val = p.val % 4096) :
    OUT (F := Ideal) X w c (ix3 b p o) = oVal (F := Ideal) X w c q (ix3 0 r o) := by
  have e1 : q = ⟨4 * b.val + p.val / 4096, by have := p.isLt; have := b.isLt; omega⟩ := Fin.ext hq
  have e2 : r = ⟨p.val % 4096, Nat.mod_lt _ (by decide)⟩ := Fin.ext hr
  rw [e1, e2, ix3_eq_valueIdx (0 : Fin 1)]
  rfl

/-- An output entry: the same, the chunk and the row being those of its position. -/
theorem OUT_apply (X : Dev nD → X3) (w : W2) (c : Dev nD) (b : Fin 2) (p : Fin 16384) (o : Fin 128) :
    OUT (F := Ideal) X w c (ix3 b p o) = ∑ k : Fin 64,
      act (∑ e : Dev nD, ∑ p : Fin 16384, X e (ix3 b p k)) (∑ e : Dev nD, ∑ p : Fin 16384, X e (ix3 b p k) * X e (ix3 b p k))
        (X c (ix3 b p k)) * w (ix2 k o) := by
  have hp := p.isLt
  have hb := b.isLt
  obtain ⟨q, hq⟩ : ∃ q : Fin 8, q.val = 4 * b.val + p.val / 4096 := ⟨⟨4 * b.val + p.val / 4096, by omega⟩, rfl⟩
  obtain ⟨r, hr⟩ : ∃ r : Fin 4096, r.val = p.val % 4096 := ⟨⟨p.val % 4096, by omega⟩, rfl⟩
  have e1 : bat q = b := Fin.ext (by show q.val / 4 = b.val; omega)
  have e2 : (⟨4096 * (q.val % 4) + r.val, by have := r.isLt; omega⟩ : Fin 16384) = p := Fin.ext (by
    show 4096 * (q.val % 4) + r.val = p.val; omega)
  rw [OUT_eq X w c b p o q hq r hr, oVal_apply, e1, e2]

end Cert.KernelIdeal.Body

end
-- ==== Proof.RefValue.lean ====
/- What the reference computes, in named steps and read at an index: the mean and the variance of a channel,
   the normalized entries, the activations and their product with the weights; and its activations over
   real entries. -/
module

public import proofs.«01_k».proof.Proof.Gen.ReferenceIdeal
public import proofs.«01_k».proof.Proof.Gen.ReferenceIdeal.Run
public import proofs.«01_k».proof.Proof.Normal
public import Idealize.ShloMosaic.Lib.Pointwise

@[expose] public section

set_option maxRecDepth 16384

noncomputable section

namespace Cert.ReferenceIdeal.Value
open Idealize.ShloMosaic Idealize.ShloMosaic.TcCoe
open Cert.ReferenceIdeal Cert.ReferenceIdeal.Gen

/-- The sum over the two pixel axes, at a batch and a channel. -/
theorem sum_pixels (x : S2x2048x128x64.Idx → EReal) (b : Fin 2) (k : Fin 64) :
    Ideal.hostReduceAdd reducesTo_S2x2048x128x64_S2x64_d1_2 x 0 (ix2 b k) = ∑ n : Fin 2048, ∑ p : Fin 128, x (ix4 b n p k) := by
  unfold Ideal.hostReduceAdd
  rw [zero_add]
  refine (Finset.sum_filter_eq_sum_of_fiber _ (fun q : Fin 2048 × Fin 128 => (ix4 b q.1 q.2 k : S2x2048x128x64.Idx))
    (fun _ _ e => Prod.ext (congrFun e 1) (congrFun e 2)) (fun i => ⟨fun e => ⟨(i 1, i 2), ?_⟩, ?_⟩) x).trans
    (by simp only [Fintype.sum_prod_type])
  · funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨q, rfl⟩
    funext a; apply Fin.ext
    match a with
    | ⟨0, _⟩ => rfl
    | ⟨1, _⟩ => rfl

abbrev A4 := FVec Ideal S2x2048x128x64 .f32
abbrev A1 := FVec Ideal S2x1x1x64 .f32

/-- The sums of the entries of an array over its pixels, divided by a number. -/
def avg (x : A4) (n : FVec Ideal S_ .f32) : A1 :=
  Host.divf (broadcastInDim S2x1x1x64 ![0, 3] bcast_S2x64_S2x1x1x64_0_3 (Host.reduceAdd x (constant S_ .f32 0x00000000#32) reducesTo_S2x2048x128x64_S2x64_d1_2 h_S_)) (broadcastInDim S2x1x1x64 ![] bcast_S_S2x1x1x64 n)

/-- One value per batch and channel, over all pixels. -/
abbrev spread (y : A1) : A4 := broadcastInDim S2x2048x128x64 ![0, 1, 2, 3] bcast_S2x1x1x64_S2x2048x128x64_0_1_2_3 y

/-- The entries less their mean. -/
def dev (x : A4) : A4 := subf x (spread (avg x (constant S_ .f32 0x48800000#32)))

/-- The number of pixels, as the variance has it. -/
def cnt : FVec Ideal S_ .f32 := subf (constant S_ .f32 0x48800000#32) (sitofp .f32 (constantI S_ 32 0#32))

/-- The variance. -/
def var (x : A4) : A1 :=
  select (broadcastInDim S2x1x1x64 ![] bcast_S_S2x1x1x64 (cmpf .ogt cnt (constant S_ .f32 0x00000000#32))) (avg (mulf (dev x) (dev x)) cnt)
    (broadcastInDim S2x1x1x64 ![] bcast_S_S2x1x1x64 (id (constant S_ .f32 0x7FC00000#32)))

/-- The normalized entries. -/
def nrm (x : A4) : A4 :=
  Host.divf (dev x) (spread (Host.sqrt (addf (var x) (broadcastInDim S2x1x1x64 ![] bcast_S_S2x1x1x64 (constant S_ .f32 0x3727C5AC#32)))))

/-- The activations. -/
def actv (x : A4) : A4 :=
  Host.divf (nrm x) (addf (broadcastInDim S2x2048x128x64 ![] bcast_S_S2x2048x128x64 (constant S_ .f32 0x3F800000#32)) (Host.exp (Host.negf (nrm x))))

/-- The result: the activations times the weights. -/
def res (x : A4) (w : FVec Ideal S64x128 .f32) : FVec Ideal S2x2048x128x128 .f32 :=
  shapeCast _ (Host.dotGeneral dot_S524288x64_S64x128_S524288x128_1_0_0_1_n_n none (shapeCast _ (actv x) shapeCasts_S2x2048x128x64_S524288x64) w) shapeCasts_S524288x128_S2x2048x128x128

theorem res_eq (m : (ℓ : Loc nD τ sig) → Buf (Elt Ideal) ℓ) (c : Dev nD) :
    res_main_v19 m c = res (m ((c.tc : Thread nD τ).loc main_arg0)) (m ((c.tc : Thread nD τ).loc main_arg1)) := rfl

theorem avg_apply (x : A4) (n : FVec Ideal S_ .f32) (b : Fin 2) (k : Fin 64) :
    avg x n (ix4 b 0 0 k) = Ideal.div (∑ u : Fin 2048, ∑ p : Fin 128, x (ix4 b u p k)) (n ix0) := by
  pointwise [avg]
  exact congrArg (Ideal.div · _) (sum_pixels x b k)

theorem dev_apply (x : A4) (b : Fin 2) (u : Fin 2048) (p : Fin 128) (k : Fin 64) :
    dev x (ix4 b u p k) = x (ix4 b u p k) - avg x (constant S_ .f32 0x48800000#32) (ix4 b 0 0 k) := by
  pointwise [dev]

theorem cnt_apply : cnt ix0 = ((262144 : ℝ) : EReal) := by
  show Ideal.ofBits .f32 0x48800000#32 - (((0#32).toInt : ℝ) : EReal) = _
  rw [Cert.Normal.bits_count, ← EReal.coe_sub]
  norm_num

theorem var_apply (x : A4) (b : Fin 2) (k : Fin 64) : var x (ix4 b 0 0 k) = avg (mulf (dev x) (dev x)) cnt (ix4 b 0 0 k) := by
  have h : (0 : EReal) < cnt ix0 := by rw [cnt_apply]; exact_mod_cast (by norm_num : (0 : ℝ) < 262144)
  pointwise [var]
  exact if_pos h

theorem nrm_apply (x : A4) (b : Fin 2) (u : Fin 2048) (p : Fin 128) (k : Fin 64) :
    nrm x (ix4 b u p k) = Ideal.div (dev x (ix4 b u p k)) (Ideal.sqrt (var x (ix4 b 0 0 k) + Ideal.ofBits .f32 0x3727C5AC#32)) := by
  pointwise [nrm]

theorem actv_apply (x : A4) (b : Fin 2) (u : Fin 2048) (p : Fin 128) (k : Fin 64) :
    actv x (ix4 b u p k) = Ideal.div (nrm x (ix4 b u p k)) (1 + Ideal.exp (-nrm x (ix4 b u p k))) := by
  pointwise [actv]

theorem res_apply (x : A4) (w : FVec Ideal S64x128 .f32) (b : Fin 2) (u : Fin 2048) (p : Fin 128) (o : Fin 128) :
    res x w (ix4 b u p o) = ∑ k : Fin 64, actv x (ix4 b u p k) * w (ix2 k o) := by
  pointwise [res]

/-! ## Over real entries -/

/-- The sum of a channel. -/
def tot (r : S2x2048x128x64.Idx → ℝ) (b : Fin 2) (k : Fin 64) : ℝ := ∑ u : Fin 2048, ∑ p : Fin 128, r (ix4 b u p k)

theorem sum_coe₂ (r : S2x2048x128x64.Idx → ℝ) (b : Fin 2) (k : Fin 64) :
    ∑ u : Fin 2048, ∑ p : Fin 128, (r (ix4 b u p k) : EReal) = (tot r b k : ℝ) := by
  unfold tot
  rw [← Cert.Normal.sum_coe]
  exact Finset.sum_congr rfl fun u _ => Cert.Normal.sum_coe _ _

/-- The variance of a channel, from its sum and its sum of squares. -/
def varR (r : S2x2048x128x64.Idx → ℝ) (b : Fin 2) (k : Fin 64) : ℝ :=
  tot (fun i => r i * r i) b k / 262144 - (tot r b k / 262144) ^ 2

theorem varR_eq (r : S2x2048x128x64.Idx → ℝ) (b : Fin 2) (k : Fin 64) :
    varR r b k = (∑ u : Fin 2048, ∑ p : Fin 128, (r (ix4 b u p k) - tot r b k / 262144) * (r (ix4 b u p k) - tot r b k / 262144)) / 262144 := by
  have e := Cert.Normal.variance (ι := Fin 2048 × Fin 128) 262144 (by simp) (by norm_num) (fun q => r (ix4 b q.1 q.2 k))
  simp only [Fintype.sum_prod_type] at e
  exact e.symm

theorem varR_nonneg (r : S2x2048x128x64.Idx → ℝ) (b : Fin 2) (k : Fin 64) : 0 ≤ varR r b k := by
  rw [varR_eq]
  exact div_nonneg (Finset.sum_nonneg fun u _ => Finset.sum_nonneg fun p _ => mul_self_nonneg _) (by norm_num)

theorem dev_coe (r : S2x2048x128x64.Idx → ℝ) (b : Fin 2) (u : Fin 2048) (p : Fin 128) (k : Fin 64) :
    dev (fun i => (r i : EReal)) (ix4 b u p k) = ((r (ix4 b u p k) - tot r b k / 262144 : ℝ) : EReal) := by
  rw [dev_apply, avg_apply, sum_coe₂, EReal.coe_sub]
  show _ - Ideal.div _ (Ideal.ofBits .f32 0x48800000#32) = _
  rw [Cert.Normal.bits_count, Ideal.div_coe (by norm_num), ← EReal.coe_mul, mul_one_div]

theorem var_coe (r : S2x2048x128x64.Idx → ℝ) (b : Fin 2) (k : Fin 64) :
    var (fun i => (r i : EReal)) (ix4 b 0 0 k) = (varR r b k : ℝ) := by
  have e : ∀ (u : Fin 2048) (p : Fin 128), mulf (dev fun i => (r i : EReal)) (dev fun i => (r i : EReal)) (ix4 b u p k)
      = (((r (ix4 b u p k) - tot r b k / 262144) * (r (ix4 b u p k) - tot r b k / 262144) : ℝ) : EReal) := fun u p => by
    rw [EReal.coe_mul, ← dev_coe]
    rfl
  rw [var_apply, avg_apply, cnt_apply, Finset.sum_congr rfl fun u _ => Finset.sum_congr rfl fun p _ => e u p,
    Finset.sum_congr rfl fun u _ => Cert.Normal.sum_coe _ _, Cert.Normal.sum_coe, Ideal.div_coe (by norm_num), ← EReal.coe_mul,
    mul_one_div, varR_eq]

/-- The reference's activations over real entries. -/
theorem actv_coe (r : S2x2048x128x64.Idx → ℝ) (b : Fin 2) (u : Fin 2048) (p : Fin 128) (k : Fin 64) :
    actv (fun i => (r i : EReal)) (ix4 b u p k)
      = (Cert.Normal.actR (tot r b k / 262144) (varR r b k) (r (ix4 b u p k)) : ℝ) := by
  rw [actv_apply]
  exact Cert.Normal.ref_coe _ _ _ (varR_nonneg r b k) _ _ (dev_coe r b u p k) (by rw [nrm_apply, var_coe])

end Cert.ReferenceIdeal.Value

end
-- ==== Proof.Equation.lean ====
/- The kernel's result on every device is that device's block of the reference's result, when every entry of the
   input is finite. -/
module

public import proofs.«01_k».proof.Defs
public import proofs.«01_k».proof.Proof.KernelValue
public import proofs.«01_k».proof.Proof.RefValue
public import proofs.«01_k».proof.Proof.Launch
public import Idealize.ShloMosaic.Lib.LayoutAt

@[expose] public section

set_option maxRecDepth 16384

noncomputable section

namespace Cert.Equation

open Idealize.ShloMosaic Idealize.ShloMosaic.TcCoe
open Cert.KernelIdeal Cert.KernelIdeal.Body
open Cert.Normal Cert.ReferenceIdeal.Value
open scoped BigOperators

abbrev G4 := (⟨4, ![2, 2048, 128, 64]⟩ : Shape).Idx → EReal

/-- A pixel row of the whole array: row `u` of block `c`. -/
abbrev row (c : Fin 16) (u : Fin 128) : Fin 2048 := ⟨128 * c.val + u.val, by have := c.isLt; have := u.isLt; omega⟩

/-- A block of an array cut along its pixel rows, at an index. -/
theorem block_at {n : ℕ} (c : Fin 16) (v : (⟨4, ![2, 2048, 128, n]⟩ : Shape).Idx → EReal)
    (h : Layout.Tiles ⟨4, ![2, 128, 128, n]⟩ ⟨4, ![2, 2048, 128, n]⟩ 1 16) (b : Fin 2) (u p : Fin 128) (k : Fin n) :
    Layout.block ⟨4, ![2, 128, 128, n]⟩ ⟨4, ![2, 2048, 128, n]⟩ 1 16 c v h (ix4 b u p k) = v (ix4 b (row c u) p k) := by
  rw [Layout.block_apply]
  refine congrArg v (funext fun a => Fin.ext ?_)
  match a with
  | ⟨0, _⟩ => rfl
  | ⟨1, _⟩ => show c.val * 128 + u.val = 128 * c.val + u.val; omega
  | ⟨2, _⟩ => rfl
  | ⟨3, _⟩ => rfl

/-! ## The reshapes around the kernel -/

theorem flat_at (f : S2x128x128x64.Idx → EReal) (b : Fin 2) (p : Fin 16384) (k : Fin 64) :
    shapeCast S2x16384x64 f Cert.KernelIdeal.Gen.shapeCasts_S2x128x128x64_S2x16384x64 (ix3 b p k)
      = f (ix4 b ⟨p.val / 128, by have := p.isLt; omega⟩ ⟨p.val % 128, Nat.mod_lt _ (by decide)⟩ k) := by
  pointwise

theorem wide_at (f : S2x16384x128.Idx → EReal) (b : Fin 2) (u v : Fin 128) (o : Fin 128) :
    shapeCast S2x128x128x128 f Cert.KernelIdeal.Gen.shapeCasts_S2x16384x128_S2x128x128x128 (ix4 b u v o)
      = f (ix3 b ⟨128 * u.val + v.val, by have := u.isLt; have := v.isLt; omega⟩ o) := by
  pointwise
  exact congrArg (fun p : Fin 16384 => f (ix3 b p o)) (Fin.ext (by show u.val * 128 + v.val = 128 * u.val + v.val; omega))

variable (m : (ℓ : Loc nD τ sig) → Buf (Elt Ideal) ℓ)

theorem Xin_at (c : Dev nD) (b : Fin 2) (p : Fin 16384) (k : Fin 64) :
    (Xin m c : X3) (ix3 b p k) = (m ((c : Thread nD τ).loc main_arg0) : S2x128x128x64.Idx → EReal)
      (ix4 b ⟨p.val / 128, by have := p.isLt; omega⟩ ⟨p.val % 128, Nat.mod_lt _ (by decide)⟩ k) := by
  have e : (Xin m c : X3) = shapeCast S2x16384x64 (m ((c : Thread nD τ).loc main_arg0) : S2x128x128x64.Idx → EReal)
      Cert.KernelIdeal.Gen.shapeCasts_S2x128x128x64_S2x16384x64 := rfl
  rw [e, flat_at]

theorem out_at (c : Dev nD) (b : Fin 2) (u v : Fin 128) (o : Fin 128) :
    (A₃ m c main_v3 : S2x128x128x128.Idx → EReal) (ix4 b u v o) = (OUT (F := Ideal) (Xin m) (Win m c) c : S2x16384x128.Idx → EReal)
      (ix3 b ⟨128 * u.val + v.val, by have := u.isLt; have := v.isLt; omega⟩ o) := by
  have e : (A₃ m c main_v3 : S2x128x128x128.Idx → EReal) = shapeCast S2x128x128x128 (A₂ m c main_v2 : S2x16384x128.Idx → EReal)
      Cert.KernelIdeal.Gen.shapeCasts_S2x16384x128_S2x128x128x128 := rfl
  rw [e, A₂_v2, wide_at]

/-! ## The two results -/

/-- The kernel's output on one device, of inputs that are the blocks of a real array. -/
theorem kernel_eq (r : (⟨4, ![2, 2048, 128, 64]⟩ : Shape).Idx → ℝ) (X : Dev nD → X3) (w : W2)
    (hX : ∀ (e : Dev nD) (b : Fin 2) (p : Fin 16384) (k : Fin 64), X e (ix3 b p k)
      = (r (ix4 b (row e ⟨p.val / 128, by have := p.isLt; omega⟩) ⟨p.val % 128, Nat.mod_lt _ (by decide)⟩ k) : ℝ))
    (c : Dev nD) (b : Fin 2) (u v : Fin 128) (o : Fin 128) :
    OUT (F := Ideal) X w c (ix3 b (⟨128 * u.val + v.val, by have := u.isLt; have := v.isLt; omega⟩ : Fin 16384) o)
      = res (fun i => (r i : EReal)) w (ix4 b (row c u) v o) := by
  have hT : ∀ k, ∑ e : Dev nD, ∑ p : Fin 16384, X e (ix3 b p k) = (tot r b k : ℝ) := fun k => by
    rw [← sum_coe₂, pixels (fun u v => (r (ix4 b u v k) : EReal))]
    exact Finset.sum_congr rfl fun e _ => Finset.sum_congr rfl fun p _ => hX e b p k
  have hQ : ∀ k, ∑ e : Dev nD, ∑ p : Fin 16384, X e (ix3 b p k) * X e (ix3 b p k) = (tot (fun i => r i * r i) b k : ℝ) := fun k => by
    rw [← sum_coe₂, pixels (fun u v => ((r (ix4 b u v k) * r (ix4 b u v k) : ℝ) : EReal))]
    exact Finset.sum_congr rfl fun e _ => Finset.sum_congr rfl fun p _ => by rw [hX e b p k, ← EReal.coe_mul]
  refine Eq.trans (α := EReal) (OUT_apply X w c b _ o) (Eq.trans (α := EReal) (Finset.sum_congr rfl fun k _ => ?_) (res_apply _ w b (row c u) v o).symm)
  have hu := u.isLt
  have hv := v.isLt
  have hx : X c (ix3 b (⟨128 * u.val + v.val, by omega⟩ : Fin 16384) k) = (r (ix4 b (row c u) v k) : ℝ) := by
    rw [hX]
    have e1 : (⟨(128 * u.val + v.val) / 128, by omega⟩ : Fin 128) = u := Fin.ext (by show (128 * u.val + v.val) / 128 = u.val; omega)
    have e2 : (⟨(128 * u.val + v.val) % 128, by omega⟩ : Fin 128) = v := Fin.ext (by show (128 * u.val + v.val) % 128 = v.val; omega)
    rw [e1, e2]
  rw [hT, hQ, hx, act_coe _ _ _ (varR_nonneg r b k), actv_coe]
  rfl

/-- An array whose blocks are finite is an array of real numbers. -/
theorem real_of_finite (g : G4) (h : ∀ (c : Fin 16) (b : Fin 2) (u p : Fin 128) (k : Fin 64),
    max (g (ix4 b (row c u) p k)) (-g (ix4 b (row c u) p k)) < ⊤) :
    ∃ r : (⟨4, ![2, 2048, 128, 64]⟩ : Shape).Idx → ℝ, g = fun i => (r i : EReal) := by
  refine ⟨fun i => (g i).toReal, funext fun i => ?_⟩
  obtain ⟨b, n, p, k, rfl⟩ : ∃ (b : Fin 2) (n : Fin 2048) (p : Fin 128) (k : Fin 64), i = ix4 b n p k := ⟨i 0, i 1, i 2, i 3, eq_ix4 i⟩
  have hn := n.isLt
  have e : row ⟨n.val / 128, by omega⟩ ⟨n.val % 128, by omega⟩ = n := Fin.ext (by
    show 128 * (n.val / 128) + n.val % 128 = n.val; omega)
  have h' := h ⟨n.val / 128, by omega⟩ b ⟨n.val % 128, by omega⟩ p k
  rw [e] at h'
  exact (EReal.coe_toReal (fun ht => by rw [ht] at h'; exact absurd h' (by simp)) (fun hb => by rw [hb] at h'; exact absurd h' (by simp))).symm

/-- The result of every device, when every device holds its block of the input and the weights, and the input is
    real. -/
theorem results (r : (⟨4, ![2, 2048, 128, 64]⟩ : Shape).Idx → ℝ) (w : W2)
    (hx : ∀ c : Dev nD, (m ((c : Thread nD τ).loc main_arg0) : S2x128x128x64.Idx → EReal)
      = Layout.block ⟨4, ![2, 128, 128, 64]⟩ ⟨4, ![2, 2048, 128, 64]⟩ 1 16 c (fun i => (r i : EReal)))
    (hw : ∀ c : Dev nD, (m ((c : Thread nD τ).loc main_arg1) : W2) = w) (c : Dev nD) :
    (A₃ m c main_v3 : S2x128x128x128.Idx → EReal)
      = Layout.block ⟨4, ![2, 128, 128, 128]⟩ ⟨4, ![2, 2048, 128, 128]⟩ 1 16 c (res (fun i => (r i : EReal)) w) := by
  funext i
  obtain ⟨b, u, v, o, rfl⟩ : ∃ (b : Fin 2) (u v : Fin 128) (o : Fin 128), i = ix4 b u v o := ⟨i 0, i 1, i 2, i 3, eq_ix4 i⟩
  have hW : (Win m c : W2) = w := (A₁_arg1 m c).trans (hw c)
  refine Eq.trans (α := EReal) (out_at m c b u v o) (Eq.trans (α := EReal) ?_ (block_at c _ _ b u v o).symm)
  rw [hW]
  exact kernel_eq r (Xin m) w (fun e b p k => Eq.trans (α := EReal) (Xin_at m e b p k)
    (Eq.trans (α := EReal) (congrFun (hx e) _) (block_at e _ _ b _ _ k))) c b u v o

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs and leaves its arguments; it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The shapes of the precondition, read of a device's arrays and of the whole ones. -/
theorem finite_facts : Cert.Pre_finite_KernelIdeal.Facts := ⟨by decide⟩
theorem finite_facts_ref : Cert.Pre_finite_ReferenceIdeal.Facts := ⟨by decide⟩

/-- The precondition at an entry: its absolute value is below infinity. -/
theorem finite_at [Cert.Pre_finite_KernelIdeal.Facts] (x : Cert.Pre_finite_KernelIdeal.S2x128x128x64.Idx → EReal)
    (w : Cert.Pre_finite_KernelIdeal.S64x128.Idx → EReal) (h : Cert.Pre_finite_KernelIdeal.fn (F := Ideal) x w = fun _ => 1#1)
    (i : Cert.Pre_finite_KernelIdeal.S2x128x128x64.Idx) : max (x i) (-x i) < ⊤ := by
  have h' : BitVec.ofBool (decide (max (x i) (-x i) < Ideal.ofBits .f32 0x7F800000#32)) = 1#1 := congrFun h i
  have ht : Ideal.ofBits .f32 0x7F800000#32 = ⊤ := by simp [Ideal.ofBits, Ideal.ieee]
  rw [ht] at h'
  by_contra hc
  rw [decide_eq_false hc] at h'
  exact absurd h' (by decide)

/-- The kernel's results are the blocks of the reference's. -/
theorem value : Cert.algebraic_KernelIdeal_ReferenceIdeal_pre_finite_KernelIdeal (hKernelIdeal := Cert.KernelIdeal.Gen.facts)
    (hReferenceIdeal := Cert.ReferenceIdeal.Gen.facts) (hPre_finite_KernelIdeal := finite_facts) := by
  intro m g m' g' hpre harg
  obtain ⟨r, hr⟩ := Cert.Equation.real_of_finite
    (m' (((0 : Dev Cert.ReferenceIdeal.nD).tc : Thread Cert.ReferenceIdeal.nD Cert.ReferenceIdeal.τ).loc Cert.ReferenceIdeal.main_arg0))
    (fun c b u p k => by
      have h := @finite_at finite_facts _ _ (hpre c) (ix4 b u p k)
      rw [(harg c).1, Cert.Equation.block_at] at h
      exact h)
  refine ⟨Cert.ReferenceIdeal.Value.res_main_v19 m' 0, ?_, ?_⟩
  · refine (θ_run Cert.KernelIdeal.defs (onTc (τ := Cert.KernelIdeal.τ) Cert.KernelIdeal.main) ⟨m, fun _ => 0, g⟩).mono
      (fun q h c => ⟨?_, (h.1 c).1, (h.1 c).2.1⟩) (Cert.KernelIdeal.Body.run_main m g)
    refine (h.1 c).2.2.trans ?_
    rw [Cert.ReferenceIdeal.Value.res_eq]
    refine (Cert.Equation.results m r _ (fun e => (harg e).1.trans (by rw [hr])) (fun e => (harg e).2) c).trans ?_
    rw [hr]
  · exact (θ_run Cert.ReferenceIdeal.defs _ _).mono (fun q h => h 0) (Cert.ReferenceIdeal.Value.run m' g')

theorem claim : Cert.Claim := ⟨Cert.Kernel.Gen.facts, Cert.KernelIdeal.Gen.facts, Cert.ReferenceIdeal.Gen.facts,
  finite_facts, finite_facts_ref, frame_kernel, frame_ideal, fun m ρ _ => frame_ideal m ρ trivial, frame_reference,
  fun m ρ _ => frame_reference m ρ trivial, trivial, value⟩

end Cert.Proof

end
